-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph_and_weights [hPre_graph_and_weights : Cert.Pre_graph_and_weights.Facts] (m : (ℓ : Loc Cert.KernelIdeal.nD Cert.KernelIdeal.τ Cert.KernelIdeal.sig) → Buf (Elt Ideal) ℓ) : Prop :=
  ∀ c : Dev Cert.KernelIdeal.nD,
    (Cert.Pre_graph_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_graph_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_graph_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_graph_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_graph_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_graph_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_graph_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_graph_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_and_weights [hPre_graph_and_weights : Cert.Pre_graph_and_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_graph_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_graph_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_graph_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_graph_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_graph_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_graph_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_graph_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_graph_and_weights [hKernelIdeal : Cert.KernelIdeal.Facts] [hPre_graph_and_weights : Cert.Pre_graph_and_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph_and_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_graph_and_weights [hReferenceIdeal : Cert.ReferenceIdeal.Facts] [hPre_graph_and_weights : Cert.Pre_graph_and_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_and_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "mean" .f32 0x3C4565C8#32 ((1 / 83 : ℝ) : EReal)

def algebraic_KernelIdeal_ReferenceIdeal_pre_graph_and_weights [hKernelIdeal : Cert.KernelIdeal.Facts] [hReferenceIdeal : Cert.ReferenceIdeal.Facts] [hPre_graph_and_weights : Cert.Pre_graph_and_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph_and_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v223)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v223) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_graph_and_weights : Cert.Pre_graph_and_weights.Facts),
    quiescent_Kernel (hKernel := hKernel)
    ∧ quiescent_KernelIdeal (hKernelIdeal := hKernelIdeal)
    ∧ quiescent_KernelIdeal_pre_graph_and_weights (hKernelIdeal := hKernelIdeal) (hPre_graph_and_weights := hPre_graph_and_weights)
    ∧ quiescent_ReferenceIdeal (hReferenceIdeal := hReferenceIdeal)
    ∧ quiescent_ReferenceIdeal_pre_graph_and_weights (hReferenceIdeal := hReferenceIdeal) (hPre_graph_and_weights := hPre_graph_and_weights)
    ∧ preserves_Kernel_KernelIdeal
    ∧ algebraic_KernelIdeal_ReferenceIdeal_pre_graph_and_weights (hKernelIdeal := hKernelIdeal) (hReferenceIdeal := hReferenceIdeal) (hPre_graph_and_weights := hPre_graph_and_weights)
-- ==== Pre_graph_and_weights.lean ====
abbrev S256x20x83x16 : Shape := ⟨4, ![256, 20, 83, 16]⟩
abbrev S256x2 : Shape := ⟨2, ![256, 2]⟩
abbrev S256x1 : Shape := ⟨2, ![256, 1]⟩
abbrev S_ : Shape := ⟨0, ![]⟩
abbrev S256x24 : Shape := ⟨2, ![256, 24]⟩
abbrev S2x3403 : Shape := ⟨2, ![2, 3403]⟩
abbrev S16x32 : Shape := ⟨2, ![16, 32]⟩
abbrev S32 : Shape := ⟨1, ![32]⟩
abbrev S64x32 : Shape := ⟨2, ![64, 32]⟩
abbrev S32x10 : Shape := ⟨2, ![32, 10]⟩
abbrev S10 : Shape := ⟨1, ![10]⟩
abbrev S32x32 : Shape := ⟨2, ![32, 32]⟩

class Facts : Prop where
  bcast_S_S2x3403 : S_.BroadcastsInDim S2x3403 (![] : Fin 0 → Fin S2x3403.rank)
  bcast_S_S256x20x83x16 : S_.BroadcastsInDim S256x20x83x16 (![] : Fin 0 → Fin S256x20x83x16.rank)
  bcast_S_S16x32 : S_.BroadcastsInDim S16x32 (![] : Fin 0 → Fin S16x32.rank)
  slices_S64x32_S32x32_0_0 : S64x32.Slices ![0, 0] S32x32
  bcast_S_S32x32 : S_.BroadcastsInDim S32x32 (![] : Fin 0 → Fin S32x32.rank)

variable [Facts]

def fn_part1 {F : FTy → Type} [FloatOps F] (main_arg12 : FVec F S64x32 .f32) (main_arg14 : FVec F S64x32 .f32) (main_arg16 : FVec F S64x32 .f32) (main_v4 : IVec S2x3403 1) (main_v7 : IVec S256x20x83x16 1) (main_v10 : IVec S16x32 1) (main_v13 : IVec S16x32 1) (main_v16 : IVec S16x32 1) (main_v17 : FVec F S32x32 .f32) : IVec S2x3403 1 × IVec S256x20x83x16 1 × IVec S16x32 1 × IVec S16x32 1 × IVec S16x32 1 × IVec S32x32 1 × IVec S32x32 1 × IVec S32x32 1 :=
  let main_v18 : FVec F S32x32 .f32 := (extractStridedSlice S32x32 ![0, 0] · slices_S64x32_S32x32_0_0) main_arg12
  let main_v19 : FVec F S32x32 .f32 := subf main_v17 main_v18
  let main_cst_4 : FVec F S_ .f32 := constant S_ .f32 0x00000000#32
  let main_v20 : FVec F S32x32 .f32 := broadcastInDim S32x32 ![] bcast_S_S32x32 main_cst_4
  let main_v21 : IVec S32x32 1 := cmpf .oeq main_v19 main_v20
  let main_v22 : FVec F S32x32 .f32 := (extractStridedSlice S32x32 ![0, 0] · slices_S64x32_S32x32_0_0) main_arg14
  let main_v23 : FVec F S32x32 .f32 := (extractStridedSlice S32x32 ![0, 0] · slices_S64x32_S32x32_0_0) main_arg14
  let main_v24 : FVec F S32x32 .f32 := subf main_v22 main_v23
  let main_cst_5 : FVec F S_ .f32 := constant S_ .f32 0x00000000#32
  let main_v25 : FVec F S32x32 .f32 := broadcastInDim S32x32 ![] bcast_S_S32x32 main_cst_5
  let main_v26 : IVec S32x32 1 := cmpf .oeq main_v24 main_v25
  let main_v27 : FVec F S32x32 .f32 := (extractStridedSlice S32x32 ![0, 0] · slices_S64x32_S32x32_0_0) main_arg16
  let main_v28 : FVec F S32x32 .f32 := (extractStridedSlice S32x32 ![0, 0] · slices_S64x32_S32x32_0_0) main_arg16
  let main_v29 : FVec F S32x32 .f32 := subf main_v27 main_v28
  let main_cst_6 : FVec F S_ .f32 := constant S_ .f32 0x00000000#32
  let main_v30 : FVec F S32x32 .f32 := broadcastInDim S32x32 ![] bcast_S_S32x32 main_cst_6
  let main_v31 : IVec S32x32 1 := cmpf .oeq main_v29 main_v30
  (main_v4, main_v7, main_v10, main_v13, main_v16, main_v21, main_v26, main_v31)

def fn {F : FTy → Type} [FloatOps F] (main_arg0 : FVec F S256x20x83x16 .f32) (main_arg1 : FVec F S256x2 .f32) (main_arg2 : FVec F S256x1 .f32) (main_arg3 : IVec S_ 32) (main_arg4 : FVec F S256x24 .f32) (main_arg5 : IVec S2x3403 32) (main_arg6 : FVec F S16x32 .f32) (main_arg7 : FVec F S32 .f32) (main_arg8 : FVec F S16x32 .f32) (main_arg9 : FVec F S32 .f32) (main_arg10 : FVec F S16x32 .f32) (main_arg11 : FVec F S32 .f32) (main_arg12 : FVec F S64x32 .f32) (main_arg13 : FVec F S32 .f32) (main_arg14 : FVec F S64x32 .f32) (main_arg15 : FVec F S32 .f32) (main_arg16 : FVec F S64x32 .f32) (main_arg17 : FVec F S32 .f32) (main_arg18 : FVec F S32x10 .f32) (main_arg19 : FVec F S10 .f32) : IVec S2x3403 1 × IVec S256x20x83x16 1 × IVec S16x32 1 × IVec S16x32 1 × IVec S16x32 1 × IVec S32x32 1 × IVec S32x32 1 × IVec S32x32 1 :=
  let main_c : IVec S_ 32 := constantI S_ 32 0#32
  let main_v0 : IVec S2x3403 32 := broadcastInDim S2x3403 ![] bcast_S_S2x3403 main_c
  let main_v1 : IVec S2x3403 1 := cmpi .sge main_arg5 main_v0
  let main_c_0 : IVec S_ 32 := constantI S_ 32 83#32
  let main_v2 : IVec S2x3403 32 := broadcastInDim S2x3403 ![] bcast_S_S2x3403 main_c_0
  let main_v3 : IVec S2x3403 1 := cmpi .slt main_arg5 main_v2
  let main_v4 : IVec S2x3403 1 := andi main_v1 main_v3
  let main_v5 : FVec F S256x20x83x16 .f32 := subf main_arg0 main_arg0
  let main_cst : FVec F S_ .f32 := constant S_ .f32 0x00000000#32
  let main_v6 : FVec F S256x20x83x16 .f32 := broadcastInDim S256x20x83x16 ![] bcast_S_S256x20x83x16 main_cst
  let main_v7 : IVec S256x20x83x16 1 := cmpf .oeq main_v5 main_v6
  let main_v8 : FVec F S16x32 .f32 := subf main_arg6 main_arg6
  let main_cst_1 : FVec F S_ .f32 := constant S_ .f32 0x00000000#32
  let main_v9 : FVec F S16x32 .f32 := broadcastInDim S16x32 ![] bcast_S_S16x32 main_cst_1
  let main_v10 : IVec S16x32 1 := cmpf .oeq main_v8 main_v9
  let main_v11 : FVec F S16x32 .f32 := subf main_arg8 main_arg8
  let main_cst_2 : FVec F S_ .f32 := constant S_ .f32 0x00000000#32
  let main_v12 : FVec F S16x32 .f32 := broadcastInDim S16x32 ![] bcast_S_S16x32 main_cst_2
  let main_v13 : IVec S16x32 1 := cmpf .oeq main_v11 main_v12
  let main_v14 : FVec F S16x32 .f32 := subf main_arg10 main_arg10
  let main_cst_3 : FVec F S_ .f32 := constant S_ .f32 0x00000000#32
  let main_v15 : FVec F S16x32 .f32 := broadcastInDim S16x32 ![] bcast_S_S16x32 main_cst_3
  let main_v16 : IVec S16x32 1 := cmpf .oeq main_v14 main_v15
  let main_v17 : FVec F S32x32 .f32 := (extractStridedSlice S32x32 ![0, 0] · slices_S64x32_S32x32_0_0) main_arg12
  fn_part1 (F := F) main_arg12 main_arg14 main_arg16 main_v4 main_v7 main_v10 main_v13 main_v16 main_v17
-- ==== Kernel.lean ====
abbrev S256x20x83x16 : Shape := ⟨4, ![256, 20, 83, 16]⟩
abbrev S256x2 : Shape := ⟨2, ![256, 2]⟩
abbrev S256x1 : Shape := ⟨2, ![256, 1]⟩
abbrev S_ : Shape := ⟨0, ![]⟩
abbrev S256x24 : Shape := ⟨2, ![256, 24]⟩
abbrev S2x3403 : Shape := ⟨2, ![2, 3403]⟩
abbrev S16x32 : Shape := ⟨2, ![16, 32]⟩
abbrev S32 : Shape := ⟨1, ![32]⟩
abbrev S64x32 : Shape := ⟨2, ![64, 32]⟩
abbrev S32x10 : Shape := ⟨2, ![32, 10]⟩
abbrev S10 : Shape := ⟨1, ![10]⟩
abbrev S83 : Shape := ⟨1, ![83]⟩
abbrev S1x3403 : Shape := ⟨2, ![1, 3403]⟩
abbrev S3403 : Shape := ⟨1, ![3403]⟩
abbrev S3486 : Shape := ⟨1, ![3486]⟩
abbrev S3486x1 : Shape := ⟨2, ![3486, 1]⟩
abbrev S83x83 : Shape := ⟨2, ![83, 83]⟩
abbrev S3486x2 : Shape := ⟨2, ![3486, 2]⟩
abbrev S88x83 : Shape := ⟨2, ![88, 83]⟩
abbrev S1 : Shape := ⟨1, ![1]⟩
abbrev S32x32 : Shape := ⟨2, ![32, 32]⟩
abbrev S64x128 : Shape := ⟨2, ![64, 128]⟩
abbrev S2 : Shape := ⟨1, ![2]⟩
abbrev S64x384 : Shape := ⟨2, ![64, 384]⟩
abbrev S128x384 : Shape := ⟨2, ![128, 384]⟩
abbrev S1x32 : Shape := ⟨2, ![1, 32]⟩
abbrev S4x32 : Shape := ⟨2, ![4, 32]⟩
abbrev S128 : Shape := ⟨1, ![128]⟩
abbrev S384 : Shape := ⟨1, ![384]⟩
abbrev S1x384 : Shape := ⟨2, ![1, 384]⟩
abbrev S128x128 : Shape := ⟨2, ![128, 128]⟩
abbrev S128x256 : Shape := ⟨2, ![128, 256]⟩
abbrev S128x40 : Shape := ⟨2, ![128, 40]⟩
abbrev S1x10 : Shape := ⟨2, ![1, 10]⟩
abbrev S4x10 : Shape := ⟨2, ![4, 10]⟩
abbrev S40 : Shape := ⟨1, ![40]⟩
abbrev S1x40 : Shape := ⟨2, ![1, 40]⟩
abbrev S64x4x20x83x16 : Shape := ⟨5, ![64, 4, 20, 83, 16]⟩
abbrev S64x83x20x4x16 : Shape := ⟨5, ![64, 83, 20, 4, 16]⟩
abbrev S64x83x1280 : Shape := ⟨3, ![64, 83, 1280]⟩
abbrev S4x16x40 : Shape := ⟨3, ![4, 16, 40]⟩
abbrev S16x83x1280 : Shape := ⟨3, ![16, 83, 1280]⟩
abbrev S1x16x40 : Shape := ⟨3, ![1, 16, 40]⟩
abbrev S1408x1280 : Shape := ⟨2, ![1408, 1280]⟩
abbrev S1x83x1280 : Shape := ⟨3, ![1, 83, 1280]⟩
abbrev S83x1280 : Shape := ⟨2, ![83, 1280]⟩
abbrev S88x1280 : Shape := ⟨2, ![88, 1280]⟩
abbrev S1408x128 : Shape := ⟨2, ![1408, 128]⟩
abbrev S1408x384 : Shape := ⟨2, ![1408, 384]⟩
abbrev S1408x256 : Shape := ⟨2, ![1408, 256]⟩
abbrev S16x88x128 : Shape := ⟨3, ![16, 88, 128]⟩
abbrev S16x128 : Shape := ⟨2, ![16, 128]⟩
abbrev S16x40 : Shape := ⟨2, ![16, 40]⟩
abbrev S256x10 : Shape := ⟨2, ![256, 10]⟩
abbrev S256x37 : Shape := ⟨2, ![256, 37]⟩

abbrev nBuf : Space → Nat
  | .hbm => 328
  | .vmem => 13
  | .smem => 0
  | _ => 0

abbrev hbmTy0_0 (i : Nat) : BufTy := match i % 128 with
  | 0 => ⟨S256x20x83x16, .f32⟩
  | 1 => ⟨S256x2, .f32⟩
  | 2 => ⟨S256x1, .f32⟩
  | 3 => ⟨S_, .i32⟩
  | 4 => ⟨S256x24, .f32⟩
  | 5 => ⟨S2x3403, .i32⟩
  | 6 => ⟨S16x32, .f32⟩
  | 7 => ⟨S32, .f32⟩
  | 8 => ⟨S16x32, .f32⟩
  | 9 => ⟨S32, .f32⟩
  | 10 => ⟨S16x32, .f32⟩
  | 11 => ⟨S32, .f32⟩
  | 12 => ⟨S64x32, .f32⟩
  | 13 => ⟨S32, .f32⟩
  | 14 => ⟨S64x32, .f32⟩
  | 15 => ⟨S32, .f32⟩
  | 16 => ⟨S64x32, .f32⟩
  | 17 => ⟨S32, .f32⟩
  | 18 => ⟨S32x10, .f32⟩
  | 19 => ⟨S10, .f32⟩
  | 20 => ⟨S83, .i32⟩
  | 21 => ⟨S1x3403, .i32⟩
  | 22 => ⟨S3403, .i32⟩
  | 23 => ⟨S3486, .i32⟩
  | 24 => ⟨S1x3403, .i32⟩
  | 25 => ⟨S3403, .i32⟩
  | 26 => ⟨S3486, .i32⟩
  | 27 => ⟨S_, .f32⟩
  | 28 => ⟨S83, .f32⟩
  | 29 => ⟨S_, .i32⟩
  | 30 => ⟨S3486, .i32⟩
  | 31 => ⟨S3486, .i1⟩
  | 32 => ⟨S_, .i32⟩
  | 33 => ⟨S3486, .i32⟩
  | 34 => ⟨S3486, .i32⟩
  | 35 => ⟨S3486, .i32⟩
  | 36 => ⟨S3486x1, .i32⟩
  | 37 => ⟨S_, .f32⟩
  | 38 => ⟨S3486, .f32⟩
  | 39 => ⟨S83, .f32⟩
  | 40 => ⟨S_, .f32⟩
  | 41 => ⟨S83, .f32⟩
  | 42 => ⟨S83, .i1⟩
  | 43 => ⟨S83, .f32⟩
  | 44 => ⟨S_, .f32⟩
  | 45 => ⟨S83, .f32⟩
  | 46 => ⟨S83, .f32⟩
  | 47 => ⟨S_, .f32⟩
  | 48 => ⟨S_, .f32⟩
  | 49 => ⟨S83, .f32⟩
  | 50 => ⟨S83, .f32⟩
  | 51 => ⟨S_, .i32⟩
  | 52 => ⟨S3486, .i32⟩
  | 53 => ⟨S3486, .i1⟩
  | 54 => ⟨S_, .i32⟩
  | 55 => ⟨S3486, .i32⟩
  | 56 => ⟨S3486, .i32⟩
  | 57 => ⟨S3486, .i32⟩
  | 58 => ⟨S3486x1, .i32⟩
  | 59 => ⟨S3486, .f32⟩
  | 60 => ⟨S_, .i32⟩
  | 61 => ⟨S3486, .i32⟩
  | 62 => ⟨S3486, .i1⟩
  | 63 => ⟨S_, .i32⟩
  | 64 => ⟨S3486, .i32⟩
  | 65 => ⟨S3486, .i32⟩
  | 66 => ⟨S3486, .i32⟩
  | 67 => ⟨S3486x1, .i32⟩
  | 68 => ⟨S3486, .f32⟩
  | 69 => ⟨S3486, .f32⟩
  | 70 => ⟨S_, .f32⟩
  | 71 => ⟨S83x83, .f32⟩
  | 72 => ⟨S_, .i32⟩
  | 73 => ⟨S3486, .i32⟩
  | 74 => ⟨S3486, .i1⟩
  | 75 => ⟨S_, .i32⟩
  | 76 => ⟨S3486, .i32⟩
  | 77 => ⟨S3486, .i32⟩
  | 78 => ⟨S3486, .i32⟩
  | 79 => ⟨S_, .i32⟩
  | 80 => ⟨S3486, .i32⟩
  | 81 => ⟨S3486, .i1⟩
  | 82 => ⟨S_, .i32⟩
  | 83 => ⟨S3486, .i32⟩
  | 84 => ⟨S3486, .i32⟩
  | 85 => ⟨S3486, .i32⟩
  | 86 => ⟨S3486x1, .i32⟩
  | 87 => ⟨S3486x1, .i32⟩
  | 88 => ⟨S3486x2, .i32⟩
  | 89 => ⟨S83x83, .f32⟩
  | 90 => ⟨S_, .f32⟩
  | 91 => ⟨S88x83, .f32⟩
  | 92 => ⟨S_, .i32⟩
  | 93 => ⟨S1, .i32⟩
  | 94 => ⟨S88x83, .f32⟩
  | 95 => ⟨S88x83, .bf16⟩
  | 96 => ⟨S32x32, .f32⟩
  | 97 => ⟨S16x32, .f32⟩
  | 98 => ⟨S_, .f32⟩
  | 99 => ⟨S64x128, .f32⟩
  | 100 => ⟨S_, .i32⟩
  | 101 => ⟨S1, .i32⟩
  | 102 => ⟨S_, .i32⟩
  | 103 => ⟨S1, .i32⟩
  | 104 => ⟨S2, .i32⟩
  | 105 => ⟨S64x128, .f32⟩
  | 106 => ⟨S_, .i32⟩
  | 107 => ⟨S1, .i32⟩
  | 108 => ⟨S_, .i32⟩
  | 109 => ⟨S1, .i32⟩
  | 110 => ⟨S2, .i32⟩
  | 111 => ⟨S64x128, .f32⟩
  | 112 => ⟨S_, .i32⟩
  | 113 => ⟨S1, .i32⟩
  | 114 => ⟨S_, .i32⟩
  | 115 => ⟨S1, .i32⟩
  | 116 => ⟨S2, .i32⟩
  | 117 => ⟨S64x128, .f32⟩
  | 118 => ⟨S_, .i32⟩
  | 119 => ⟨S1, .i32⟩
  | 120 => ⟨S_, .i32⟩
  | 121 => ⟨S1, .i32⟩
  | 122 => ⟨S2, .i32⟩
  | 123 => ⟨S64x128, .f32⟩
  | 124 => ⟨S32x32, .f32⟩
  | 125 => ⟨S16x32, .f32⟩
  | 126 => ⟨S_, .f32⟩
  | 127 => ⟨S64x128, .f32⟩
  | _ => ⟨S256x20x83x16, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S64x128, .f32⟩
  | 6 => ⟨S_, .i32⟩
  | 7 => ⟨S1, .i32⟩
  | 8 => ⟨S_, .i32⟩
  | 9 => ⟨S1, .i32⟩
  | 10 => ⟨S2, .i32⟩
  | 11 => ⟨S64x128, .f32⟩
  | 12 => ⟨S_, .i32⟩
  | 13 => ⟨S1, .i32⟩
  | 14 => ⟨S_, .i32⟩
  | 15 => ⟨S1, .i32⟩
  | 16 => ⟨S2, .i32⟩
  | 17 => ⟨S64x128, .f32⟩
  | 18 => ⟨S_, .i32⟩
  | 19 => ⟨S1, .i32⟩
  | 20 => ⟨S_, .i32⟩
  | 21 => ⟨S1, .i32⟩
  | 22 => ⟨S2, .i32⟩
  | 23 => ⟨S64x128, .f32⟩
  | 24 => ⟨S32x32, .f32⟩
  | 25 => ⟨S16x32, .f32⟩
  | 26 => ⟨S_, .f32⟩
  | 27 => ⟨S64x128, .f32⟩
  | 28 => ⟨S_, .i32⟩
  | 29 => ⟨S1, .i32⟩
  | 30 => ⟨S_, .i32⟩
  | 31 => ⟨S1, .i32⟩
  | 32 => ⟨S2, .i32⟩
  | 33 => ⟨S64x128, .f32⟩
  | 34 => ⟨S_, .i32⟩
  | 35 => ⟨S1, .i32⟩
  | 36 => ⟨S_, .i32⟩
  | 37 => ⟨S1, .i32⟩
  | 38 => ⟨S2, .i32⟩
  | 39 => ⟨S64x128, .f32⟩
  | 40 => ⟨S_, .i32⟩
  | 41 => ⟨S1, .i32⟩
  | 42 => ⟨S_, .i32⟩
  | 43 => ⟨S1, .i32⟩
  | 44 => ⟨S2, .i32⟩
  | 45 => ⟨S64x128, .f32⟩
  | 46 => ⟨S_, .i32⟩
  | 47 => ⟨S1, .i32⟩
  | 48 => ⟨S_, .i32⟩
  | 49 => ⟨S1, .i32⟩
  | 50 => ⟨S2, .i32⟩
  | 51 => ⟨S64x128, .f32⟩
  | 52 => ⟨S64x384, .f32⟩
  | 53 => ⟨S_, .f32⟩
  | 54 => ⟨S64x384, .f32⟩
  | 55 => ⟨S128x384, .f32⟩
  | 56 => ⟨S128x384, .bf16⟩
  | 57 => ⟨S128x384, .f32⟩
  | 58 => ⟨S128x384, .bf16⟩
  | 59 => ⟨S32x32, .f32⟩
  | 60 => ⟨S32, .f32⟩
  | 61 => ⟨S32, .f32⟩
  | 62 => ⟨S1x32, .f32⟩
  | 63 => ⟨S4x32, .f32⟩
  | 64 => ⟨S128, .f32⟩
  | 65 => ⟨S32x32, .f32⟩
  | 66 => ⟨S32, .f32⟩
  | 67 => ⟨S32, .f32⟩
  | 68 => ⟨S1x32, .f32⟩
  | 69 => ⟨S4x32, .f32⟩
  | 70 => ⟨S128, .f32⟩
  | 71 => ⟨S32x32, .f32⟩
  | 72 => ⟨S32, .f32⟩
  | 73 => ⟨S32, .f32⟩
  | 74 => ⟨S1x32, .f32⟩
  | 75 => ⟨S4x32, .f32⟩
  | 76 => ⟨S128, .f32⟩
  | 77 => ⟨S384, .f32⟩
  | 78 => ⟨S1x384, .f32⟩
  | 79 => ⟨S32x32, .f32⟩
  | 80 => ⟨S_, .f32⟩
  | 81 => ⟨S128x128, .f32⟩
  | 82 => ⟨S_, .i32⟩
  | 83 => ⟨S1, .i32⟩
  | 84 => ⟨S_, .i32⟩
  | 85 => ⟨S1, .i32⟩
  | 86 => ⟨S2, .i32⟩
  | 87 => ⟨S128x128, .f32⟩
  | 88 => ⟨S_, .i32⟩
  | 89 => ⟨S1, .i32⟩
  | 90 => ⟨S_, .i32⟩
  | 91 => ⟨S1, .i32⟩
  | 92 => ⟨S2, .i32⟩
  | 93 => ⟨S128x128, .f32⟩
  | 94 => ⟨S_, .i32⟩
  | 95 => ⟨S1, .i32⟩
  | 96 => ⟨S_, .i32⟩
  | 97 => ⟨S1, .i32⟩
  | 98 => ⟨S2, .i32⟩
  | 99 => ⟨S128x128, .f32⟩
  | 100 => ⟨S_, .i32⟩
  | 101 => ⟨S1, .i32⟩
  | 102 => ⟨S_, .i32⟩
  | 103 => ⟨S1, .i32⟩
  | 104 => ⟨S2, .i32⟩
  | 105 => ⟨S128x128, .f32⟩
  | 106 => ⟨S32x32, .f32⟩
  | 107 => ⟨S_, .f32⟩
  | 108 => ⟨S128x128, .f32⟩
  | 109 => ⟨S_, .i32⟩
  | 110 => ⟨S1, .i32⟩
  | 111 => ⟨S_, .i32⟩
  | 112 => ⟨S1, .i32⟩
  | 113 => ⟨S2, .i32⟩
  | 114 => ⟨S128x128, .f32⟩
  | 115 => ⟨S_, .i32⟩
  | 116 => ⟨S1, .i32⟩
  | 117 => ⟨S_, .i32⟩
  | 118 => ⟨S1, .i32⟩
  | 119 => ⟨S2, .i32⟩
  | 120 => ⟨S128x128, .f32⟩
  | 121 => ⟨S_, .i32⟩
  | 122 => ⟨S1, .i32⟩
  | 123 => ⟨S_, .i32⟩
  | 124 => ⟨S1, .i32⟩
  | 125 => ⟨S2, .i32⟩
  | 126 => ⟨S128x128, .f32⟩
  | 127 => ⟨S_, .i32⟩
  | _ => ⟨S256x20x83x16, .f32⟩

abbrev hbmTy0_2 (i : Nat) : BufTy := match i % 128 with
  | 0 => ⟨S1, .i32⟩
  | 1 => ⟨S_, .i32⟩
  | 2 => ⟨S1, .i32⟩
  | 3 => ⟨S2, .i32⟩
  | 4 => ⟨S128x128, .f32⟩
  | 5 => ⟨S128x256, .f32⟩
  | 6 => ⟨S128x256, .bf16⟩
  | 7 => ⟨S32x32, .f32⟩
  | 8 => ⟨S_, .f32⟩
  | 9 => ⟨S128x128, .f32⟩
  | 10 => ⟨S_, .i32⟩
  | 11 => ⟨S1, .i32⟩
  | 12 => ⟨S_, .i32⟩
  | 13 => ⟨S1, .i32⟩
  | 14 => ⟨S2, .i32⟩
  | 15 => ⟨S128x128, .f32⟩
  | 16 => ⟨S_, .i32⟩
  | 17 => ⟨S1, .i32⟩
  | 18 => ⟨S_, .i32⟩
  | 19 => ⟨S1, .i32⟩
  | 20 => ⟨S2, .i32⟩
  | 21 => ⟨S128x128, .f32⟩
  | 22 => ⟨S_, .i32⟩
  | 23 => ⟨S1, .i32⟩
  | 24 => ⟨S_, .i32⟩
  | 25 => ⟨S1, .i32⟩
  | 26 => ⟨S2, .i32⟩
  | 27 => ⟨S128x128, .f32⟩
  | 28 => ⟨S_, .i32⟩
  | 29 => ⟨S1, .i32⟩
  | 30 => ⟨S_, .i32⟩
  | 31 => ⟨S1, .i32⟩
  | 32 => ⟨S2, .i32⟩
  | 33 => ⟨S128x128, .f32⟩
  | 34 => ⟨S128x128, .bf16⟩
  | 35 => ⟨S_, .f32⟩
  | 36 => ⟨S128x40, .f32⟩
  | 37 => ⟨S_, .i32⟩
  | 38 => ⟨S1, .i32⟩
  | 39 => ⟨S_, .i32⟩
  | 40 => ⟨S1, .i32⟩
  | 41 => ⟨S2, .i32⟩
  | 42 => ⟨S128x40, .f32⟩
  | 43 => ⟨S_, .i32⟩
  | 44 => ⟨S1, .i32⟩
  | 45 => ⟨S_, .i32⟩
  | 46 => ⟨S1, .i32⟩
  | 47 => ⟨S2, .i32⟩
  | 48 => ⟨S128x40, .f32⟩
  | 49 => ⟨S_, .i32⟩
  | 50 => ⟨S1, .i32⟩
  | 51 => ⟨S_, .i32⟩
  | 52 => ⟨S1, .i32⟩
  | 53 => ⟨S2, .i32⟩
  | 54 => ⟨S128x40, .f32⟩
  | 55 => ⟨S_, .i32⟩
  | 56 => ⟨S1, .i32⟩
  | 57 => ⟨S_, .i32⟩
  | 58 => ⟨S1, .i32⟩
  | 59 => ⟨S2, .i32⟩
  | 60 => ⟨S128x40, .f32⟩
  | 61 => ⟨S1x10, .f32⟩
  | 62 => ⟨S4x10, .f32⟩
  | 63 => ⟨S40, .f32⟩
  | 64 => ⟨S1x40, .f32⟩
  | 65 => ⟨S64x4x20x83x16, .f32⟩
  | 66 => ⟨S64x83x20x4x16, .f32⟩
  | 67 => ⟨S64x83x1280, .f32⟩
  | 68 => ⟨S64x83x1280, .bf16⟩
  | 69 => ⟨S4x16x40, .f32⟩
  | 70 => ⟨S256x10, .f32⟩
  | 71 => ⟨S256x37, .f32⟩
  | _ => ⟨S256x20x83x16, .f32⟩

abbrev hbmTy (i : Nat) : BufTy := match i / 128 with
  | 0 => hbmTy0_0 i
  | 1 => hbmTy0_1 i
  | 2 => hbmTy0_2 i
  | _ => ⟨S256x20x83x16, .f32⟩

abbrev bufTy : (tb : Table) → Fin (tcTables nBuf tb) → BufTy
  | .hbm, ⟨i, _⟩ => hbmTy i
  | .local _ .vmem, ⟨0, _⟩ => ⟨S16x83x1280, .bf16⟩
  | .local _ .vmem, ⟨1, _⟩ => ⟨S16x83x1280, .bf16⟩
  | .local _ .vmem, ⟨2, _⟩ => ⟨S88x83, .bf16⟩
  | .local _ .vmem, ⟨3, _⟩ => ⟨S128x384, .bf16⟩
  | .local _ .vmem, ⟨4, _⟩ => ⟨S128x384, .bf16⟩
  | .local _ .vmem, ⟨5, _⟩ => ⟨S1x384, .f32⟩
  | .local _ .vmem, ⟨6, _⟩ => ⟨S128x256, .bf16⟩
  | .local _ .vmem, ⟨7, _⟩ => ⟨S128x128, .bf16⟩
  | .local _ .vmem, ⟨8, _⟩ => ⟨S128x40, .f32⟩
  | .local _ .vmem, ⟨9, _⟩ => ⟨S1x40, .f32⟩
  | .local _ .vmem, ⟨10, _⟩ => ⟨S1x16x40, .f32⟩
  | .local _ .vmem, ⟨11, _⟩ => ⟨S1x16x40, .f32⟩
  | .local _ .vmem, ⟨12, _⟩ => ⟨S1408x1280, .bf16⟩
  | _, _ => ⟨S256x20x83x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_7 : Ref sig .tc := ⟨.hbm, 60, rfl⟩
abbrev main_v29 : Ref sig .tc := ⟨.hbm, 61, rfl⟩
abbrev main_v30 : Ref sig .tc := ⟨.hbm, 62, rfl⟩
abbrev main_c_8 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_c_10 : Ref sig .tc := ⟨.hbm, 72, rfl⟩
abbrev main_v38 : Ref sig .tc := ⟨.hbm, 73, rfl⟩
abbrev main_v39 : Ref sig .tc := ⟨.hbm, 74, rfl⟩
abbrev main_c_11 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_12 : Ref sig .tc := ⟨.hbm, 79, rfl⟩
abbrev main_v43 : Ref sig .tc := ⟨.hbm, 80, rfl⟩
abbrev main_v44 : Ref sig .tc := ⟨.hbm, 81, rfl⟩
abbrev main_c_13 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_14 : Ref sig .tc := ⟨.hbm, 90, rfl⟩
abbrev main_v52 : Ref sig .tc := ⟨.hbm, 91, rfl⟩
abbrev main_c_15 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_16 : Ref sig .tc := ⟨.hbm, 98, rfl⟩
abbrev main_v58 : Ref sig .tc := ⟨.hbm, 99, rfl⟩
abbrev main_c_17 : Ref sig .tc := ⟨.hbm, 100, rfl⟩
abbrev main_v59 : Ref sig .tc := ⟨.hbm, 101, rfl⟩
abbrev main_c_18 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_c_19 : Ref sig .tc := ⟨.hbm, 106, rfl⟩
abbrev main_v63 : Ref sig .tc := ⟨.hbm, 107, rfl⟩
abbrev main_c_20 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_21 : Ref sig .tc := ⟨.hbm, 112, rfl⟩
abbrev main_v67 : Ref sig .tc := ⟨.hbm, 113, rfl⟩
abbrev main_c_22 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_c_23 : Ref sig .tc := ⟨.hbm, 118, rfl⟩
abbrev main_v71 : Ref sig .tc := ⟨.hbm, 119, rfl⟩
abbrev main_c_24 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_25 : Ref sig .tc := ⟨.hbm, 126, rfl⟩
abbrev main_v77 : Ref sig .tc := ⟨.hbm, 127, rfl⟩
abbrev main_c_26 : Ref sig .tc := ⟨.hbm, 128, rfl⟩
abbrev main_v78 : Ref sig .tc := ⟨.hbm, 129, rfl⟩
abbrev main_c_27 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_28 : Ref sig .tc := ⟨.hbm, 134, rfl⟩
abbrev main_v82 : Ref sig .tc := ⟨.hbm, 135, rfl⟩
abbrev main_c_29 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_30 : Ref sig .tc := ⟨.hbm, 140, rfl⟩
abbrev main_v86 : Ref sig .tc := ⟨.hbm, 141, rfl⟩
abbrev main_c_31 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_c_32 : Ref sig .tc := ⟨.hbm, 146, rfl⟩
abbrev main_v90 : Ref sig .tc := ⟨.hbm, 147, rfl⟩
abbrev main_c_33 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_34 : Ref sig .tc := ⟨.hbm, 154, rfl⟩
abbrev main_v96 : Ref sig .tc := ⟨.hbm, 155, rfl⟩
abbrev main_c_35 : Ref sig .tc := ⟨.hbm, 156, rfl⟩
abbrev main_v97 : Ref sig .tc := ⟨.hbm, 157, rfl⟩
abbrev main_c_36 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_c_37 : Ref sig .tc := ⟨.hbm, 162, rfl⟩
abbrev main_v101 : Ref sig .tc := ⟨.hbm, 163, rfl⟩
abbrev main_c_38 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_c_39 : Ref sig .tc := ⟨.hbm, 168, rfl⟩
abbrev main_v105 : Ref sig .tc := ⟨.hbm, 169, rfl⟩
abbrev main_c_40 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_c_41 : Ref sig .tc := ⟨.hbm, 174, rfl⟩
abbrev main_v109 : Ref sig .tc := ⟨.hbm, 175, rfl⟩
abbrev main_c_42 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_cst_43 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_cst_44 : Ref sig .tc := ⟨.hbm, 208, rfl⟩
abbrev main_v140 : Ref sig .tc := ⟨.hbm, 209, rfl⟩
abbrev main_c_45 : Ref sig .tc := ⟨.hbm, 210, rfl⟩
abbrev main_v141 : Ref sig .tc := ⟨.hbm, 211, rfl⟩
abbrev main_c_46 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_c_47 : Ref sig .tc := ⟨.hbm, 216, rfl⟩
abbrev main_v145 : Ref sig .tc := ⟨.hbm, 217, rfl⟩
abbrev main_c_48 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_c_49 : Ref sig .tc := ⟨.hbm, 222, rfl⟩
abbrev main_v149 : Ref sig .tc := ⟨.hbm, 223, rfl⟩
abbrev main_c_50 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_c_51 : Ref sig .tc := ⟨.hbm, 228, rfl⟩
abbrev main_v153 : Ref sig .tc := ⟨.hbm, 229, rfl⟩
abbrev main_c_52 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_cst_53 : Ref sig .tc := ⟨.hbm, 235, rfl⟩
abbrev main_v158 : Ref sig .tc := ⟨.hbm, 236, rfl⟩
abbrev main_c_54 : Ref sig .tc := ⟨.hbm, 237, rfl⟩
abbrev main_v159 : Ref sig .tc := ⟨.hbm, 238, rfl⟩
abbrev main_c_55 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_c_56 : Ref sig .tc := ⟨.hbm, 243, rfl⟩
abbrev main_v163 : Ref sig .tc := ⟨.hbm, 244, rfl⟩
abbrev main_c_57 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_c_58 : Ref sig .tc := ⟨.hbm, 249, rfl⟩
abbrev main_v167 : Ref sig .tc := ⟨.hbm, 250, rfl⟩
abbrev main_c_59 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_c_60 : Ref sig .tc := ⟨.hbm, 255, rfl⟩
abbrev main_v171 : Ref sig .tc := ⟨.hbm, 256, rfl⟩
abbrev main_c_61 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_cst_62 : Ref sig .tc := ⟨.hbm, 264, rfl⟩
abbrev main_v178 : Ref sig .tc := ⟨.hbm, 265, rfl⟩
abbrev main_c_63 : Ref sig .tc := ⟨.hbm, 266, rfl⟩
abbrev main_v179 : Ref sig .tc := ⟨.hbm, 267, rfl⟩
abbrev main_c_64 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_c_65 : Ref sig .tc := ⟨.hbm, 272, rfl⟩
abbrev main_v183 : Ref sig .tc := ⟨.hbm, 273, rfl⟩
abbrev main_c_66 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_c_67 : Ref sig .tc := ⟨.hbm, 278, rfl⟩
abbrev main_v187 : Ref sig .tc := ⟨.hbm, 279, rfl⟩
abbrev main_c_68 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_c_69 : Ref sig .tc := ⟨.hbm, 284, rfl⟩
abbrev main_v191 : Ref sig .tc := ⟨.hbm, 285, rfl⟩
abbrev main_c_70 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_cst_71 : Ref sig .tc := ⟨.hbm, 291, rfl⟩
abbrev main_v196 : Ref sig .tc := ⟨.hbm, 292, rfl⟩
abbrev main_c_72 : Ref sig .tc := ⟨.hbm, 293, rfl⟩
abbrev main_v197 : Ref sig .tc := ⟨.hbm, 294, rfl⟩
abbrev main_c_73 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_c_74 : Ref sig .tc := ⟨.hbm, 299, rfl⟩
abbrev main_v201 : Ref sig .tc := ⟨.hbm, 300, rfl⟩
abbrev main_c_75 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_c_76 : Ref sig .tc := ⟨.hbm, 305, rfl⟩
abbrev main_v205 : Ref sig .tc := ⟨.hbm, 306, rfl⟩
abbrev main_c_77 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_c_78 : Ref sig .tc := ⟨.hbm, 311, rfl⟩
abbrev main_v209 : Ref sig .tc := ⟨.hbm, 312, rfl⟩
abbrev main_c_79 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x83x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S88x83 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mean" => some ((1 / 83 : ℝ) : EReal)
  | _ => none
-- ==== ReferenceIdeal.lean ====
abbrev S256x20x83x16 : Shape := ⟨4, ![256, 20, 83, 16]⟩
abbrev S256x2 : Shape := ⟨2, ![256, 2]⟩
abbrev S256x1 : Shape := ⟨2, ![256, 1]⟩
abbrev S_ : Shape := ⟨0, ![]⟩
abbrev S256x24 : Shape := ⟨2, ![256, 24]⟩
abbrev S2x3403 : Shape := ⟨2, ![2, 3403]⟩
abbrev S16x32 : Shape := ⟨2, ![16, 32]⟩
abbrev S32 : Shape := ⟨1, ![32]⟩
abbrev S64x32 : Shape := ⟨2, ![64, 32]⟩
abbrev S32x10 : Shape := ⟨2, ![32, 10]⟩
abbrev S10 : Shape := ⟨1, ![10]⟩
abbrev S83 : Shape := ⟨1, ![83]⟩
abbrev S1x3403 : Shape := ⟨2, ![1, 3403]⟩
abbrev S3403 : Shape := ⟨1, ![3403]⟩
abbrev S3486 : Shape := ⟨1, ![3486]⟩
abbrev S3486x1 : Shape := ⟨2, ![3486, 1]⟩
abbrev S256x83x32 : Shape := ⟨3, ![256, 83, 32]⟩
abbrev S256x1x83x16 : Shape := ⟨4, ![256, 1, 83, 16]⟩
abbrev S256x83x16 : Shape := ⟨3, ![256, 83, 16]⟩
abbrev S256x3486x32 : Shape := ⟨3, ![256, 3486, 32]⟩
abbrev S1x3486x1 : Shape := ⟨3, ![1, 3486, 1]⟩
abbrev S1x1x32 : Shape := ⟨3, ![1, 1, 32]⟩
abbrev S256x83x64 : Shape := ⟨3, ![256, 83, 64]⟩
abbrev S256x83x10 : Shape := ⟨3, ![256, 83, 10]⟩
abbrev S1x1x10 : Shape := ⟨3, ![1, 1, 10]⟩
abbrev S21248x10 : Shape := ⟨2, ![21248, 10]⟩
abbrev S256 : Shape := ⟨1, ![256]⟩
abbrev S256x83 : Shape := ⟨2, ![256, 83]⟩
abbrev S21248 : Shape := ⟨1, ![21248]⟩
abbrev S256x10 : Shape := ⟨2, ![256, 10]⟩
abbrev S21248x1 : Shape := ⟨2, ![21248, 1]⟩
abbrev S256x37 : Shape := ⟨2, ![256, 37]⟩

abbrev nBuf : Space → Nat
  | .hbm => 249
  | .vmem => 0
  | .smem => 0
  | _ => 0

abbrev hbmTy0_0 (i : Nat) : BufTy := match i % 128 with
  | 0 => ⟨S256x20x83x16, .f32⟩
  | 1 => ⟨S256x2, .f32⟩
  | 2 => ⟨S256x1, .f32⟩
  | 3 => ⟨S_, .i32⟩
  | 4 => ⟨S256x24, .f32⟩
  | 5 => ⟨S2x3403, .i32⟩
  | 6 => ⟨S16x32, .f32⟩
  | 7 => ⟨S32, .f32⟩
  | 8 => ⟨S16x32, .f32⟩
  | 9 => ⟨S32, .f32⟩
  | 10 => ⟨S16x32, .f32⟩
  | 11 => ⟨S32, .f32⟩
  | 12 => ⟨S64x32, .f32⟩
  | 13 => ⟨S32, .f32⟩
  | 14 => ⟨S64x32, .f32⟩
  | 15 => ⟨S32, .f32⟩
  | 16 => ⟨S64x32, .f32⟩
  | 17 => ⟨S32, .f32⟩
  | 18 => ⟨S32x10, .f32⟩
  | 19 => ⟨S10, .f32⟩
  | 20 => ⟨S83, .i32⟩
  | 21 => ⟨S1x3403, .i32⟩
  | 22 => ⟨S3403, .i32⟩
  | 23 => ⟨S3486, .i32⟩
  | 24 => ⟨S1x3403, .i32⟩
  | 25 => ⟨S3403, .i32⟩
  | 26 => ⟨S3486, .i32⟩
  | 27 => ⟨S_, .f32⟩
  | 28 => ⟨S83, .f32⟩
  | 29 => ⟨S_, .i32⟩
  | 30 => ⟨S3486, .i32⟩
  | 31 => ⟨S3486, .i1⟩
  | 32 => ⟨S_, .i32⟩
  | 33 => ⟨S3486, .i32⟩
  | 34 => ⟨S3486, .i32⟩
  | 35 => ⟨S3486, .i32⟩
  | 36 => ⟨S3486x1, .i32⟩
  | 37 => ⟨S_, .f32⟩
  | 38 => ⟨S3486, .f32⟩
  | 39 => ⟨S83, .f32⟩
  | 40 => ⟨S_, .f32⟩
  | 41 => ⟨S83, .f32⟩
  | 42 => ⟨S83, .i1⟩
  | 43 => ⟨S83, .f32⟩
  | 44 => ⟨S_, .f32⟩
  | 45 => ⟨S83, .f32⟩
  | 46 => ⟨S83, .f32⟩
  | 47 => ⟨S_, .f32⟩
  | 48 => ⟨S_, .f32⟩
  | 49 => ⟨S83, .f32⟩
  | 50 => ⟨S83, .f32⟩
  | 51 => ⟨S_, .i32⟩
  | 52 => ⟨S3486, .i32⟩
  | 53 => ⟨S3486, .i1⟩
  | 54 => ⟨S_, .i32⟩
  | 55 => ⟨S3486, .i32⟩
  | 56 => ⟨S3486, .i32⟩
  | 57 => ⟨S3486, .i32⟩
  | 58 => ⟨S3486x1, .i32⟩
  | 59 => ⟨S3486, .f32⟩
  | 60 => ⟨S_, .i32⟩
  | 61 => ⟨S3486, .i32⟩
  | 62 => ⟨S3486, .i1⟩
  | 63 => ⟨S_, .i32⟩
  | 64 => ⟨S3486, .i32⟩
  | 65 => ⟨S3486, .i32⟩
  | 66 => ⟨S3486, .i32⟩
  | 67 => ⟨S3486x1, .i32⟩
  | 68 => ⟨S3486, .f32⟩
  | 69 => ⟨S3486, .f32⟩
  | 70 => ⟨S_, .f32⟩
  | 71 => ⟨S256x83x32, .f32⟩
  | 72 => ⟨S_, .i32⟩
  | 73 => ⟨S_, .i32⟩
  | 74 => ⟨S256x20x83x16, .f32⟩
  | 75 => ⟨S16x32, .f32⟩
  | 76 => ⟨S3486, .i32⟩
  | 77 => ⟨S3486, .f32⟩
  | 78 => ⟨S3486, .i32⟩
  | 79 => ⟨S32, .f32⟩
  | 80 => ⟨S64x32, .f32⟩
  | 81 => ⟨S32, .f32⟩
  | 82 => ⟨S16x32, .f32⟩
  | 83 => ⟨S32, .f32⟩
  | 84 => ⟨S64x32, .f32⟩
  | 85 => ⟨S32, .f32⟩
  | 86 => ⟨S16x32, .f32⟩
  | 87 => ⟨S32, .f32⟩
  | 88 => ⟨S64x32, .f32⟩
  | 89 => ⟨S32, .f32⟩
  | 90 => ⟨S_, .i32⟩
  | 91 => ⟨S_, .i32⟩
  | 92 => ⟨S256x83x32, .f32⟩
  | 93 => ⟨S_, .i32⟩
  | 94 => ⟨S_, .i1⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S256x1x83x16, .f32⟩
  | 107 => ⟨S256x83x16, .f32⟩
  | 108 => ⟨S256x83x32, .f32⟩
  | 109 => ⟨S_, .i32⟩
  | 110 => ⟨S3486, .i32⟩
  | 111 => ⟨S3486, .i1⟩
  | 112 => ⟨S_, .i32⟩
  | 113 => ⟨S3486, .i32⟩
  | 114 => ⟨S3486, .i32⟩
  | 115 => ⟨S3486, .i32⟩
  | 116 => ⟨S3486x1, .i32⟩
  | 117 => ⟨S256x3486x32, .f32⟩
  | 118 => ⟨S1x3486x1, .f32⟩
  | 119 => ⟨S256x3486x32, .f32⟩
  | 120 => ⟨S256x3486x32, .f32⟩
  | 121 => ⟨S_, .f32⟩
  | 122 => ⟨S256x83x32, .f32⟩
  | 123 => ⟨S_, .i32⟩
  | 124 => ⟨S3486, .i32⟩
  | 125 => ⟨S3486, .i1⟩
  | 126 => ⟨S_, .i32⟩
  | 127 => ⟨S3486, .i32⟩
  | _ => ⟨S256x20x83x16, .f32⟩

abbrev hbmTy0_1 (i : Nat) : BufTy := match i % 128 with
  | 0 => ⟨S3486, .i32⟩
  | 1 => ⟨S3486, .i32⟩
  | 2 => ⟨S3486x1, .i32⟩
  | 3 => ⟨S256x83x32, .f32⟩
  | 4 => ⟨S1x1x32, .f32⟩
  | 5 => ⟨S256x83x32, .f32⟩
  | 6 => ⟨S256x83x32, .f32⟩
  | 7 => ⟨S256x83x64, .f32⟩
  | 8 => ⟨S256x83x32, .f32⟩
  | 9 => ⟨S1x1x32, .f32⟩
  | 10 => ⟨S256x83x32, .f32⟩
  | 11 => ⟨S256x83x32, .f32⟩
  | 12 => ⟨S256x83x32, .f32⟩
  | 13 => ⟨S256x83x32, .f32⟩
  | 14 => ⟨S_, .f32⟩
  | 15 => ⟨S256x83x32, .f32⟩
  | 16 => ⟨S256x83x32, .f32⟩
  | 17 => ⟨S_, .f32⟩
  | 18 => ⟨S256x83x32, .f32⟩
  | 19 => ⟨S256x83x32, .f32⟩
  | 20 => ⟨S256x83x32, .f32⟩
  | 21 => ⟨S_, .i32⟩
  | 22 => ⟨S3486, .i32⟩
  | 23 => ⟨S3486, .i1⟩
  | 24 => ⟨S_, .i32⟩
  | 25 => ⟨S3486, .i32⟩
  | 26 => ⟨S3486, .i32⟩
  | 27 => ⟨S3486, .i32⟩
  | 28 => ⟨S3486x1, .i32⟩
  | 29 => ⟨S256x3486x32, .f32⟩
  | 30 => ⟨S1x3486x1, .f32⟩
  | 31 => ⟨S256x3486x32, .f32⟩
  | 32 => ⟨S256x3486x32, .f32⟩
  | 33 => ⟨S_, .f32⟩
  | 34 => ⟨S256x83x32, .f32⟩
  | 35 => ⟨S_, .i32⟩
  | 36 => ⟨S3486, .i32⟩
  | 37 => ⟨S3486, .i1⟩
  | 38 => ⟨S_, .i32⟩
  | 39 => ⟨S3486, .i32⟩
  | 40 => ⟨S3486, .i32⟩
  | 41 => ⟨S3486, .i32⟩
  | 42 => ⟨S3486x1, .i32⟩
  | 43 => ⟨S256x83x32, .f32⟩
  | 44 => ⟨S1x1x32, .f32⟩
  | 45 => ⟨S256x83x32, .f32⟩
  | 46 => ⟨S256x83x32, .f32⟩
  | 47 => ⟨S256x83x64, .f32⟩
  | 48 => ⟨S256x83x32, .f32⟩
  | 49 => ⟨S1x1x32, .f32⟩
  | 50 => ⟨S256x83x32, .f32⟩
  | 51 => ⟨S256x83x32, .f32⟩
  | 52 => ⟨S256x83x32, .f32⟩
  | 53 => ⟨S256x83x32, .f32⟩
  | 54 => ⟨S_, .f32⟩
  | 55 => ⟨S256x83x32, .f32⟩
  | 56 => ⟨S256x83x32, .f32⟩
  | 57 => ⟨S_, .f32⟩
  | 58 => ⟨S256x83x32, .f32⟩
  | 59 => ⟨S256x83x32, .f32⟩
  | 60 => ⟨S256x83x32, .f32⟩
  | 61 => ⟨S_, .i32⟩
  | 62 => ⟨S3486, .i32⟩
  | 63 => ⟨S3486, .i1⟩
  | 64 => ⟨S_, .i32⟩
  | 65 => ⟨S3486, .i32⟩
  | 66 => ⟨S3486, .i32⟩
  | 67 => ⟨S3486, .i32⟩
  | 68 => ⟨S3486x1, .i32⟩
  | 69 => ⟨S256x3486x32, .f32⟩
  | 70 => ⟨S1x3486x1, .f32⟩
  | 71 => ⟨S256x3486x32, .f32⟩
  | 72 => ⟨S256x3486x32, .f32⟩
  | 73 => ⟨S_, .f32⟩
  | 74 => ⟨S256x83x32, .f32⟩
  | 75 => ⟨S_, .i32⟩
  | 76 => ⟨S3486, .i32⟩
  | 77 => ⟨S3486, .i1⟩
  | 78 => ⟨S_, .i32⟩
  | 79 => ⟨S3486, .i32⟩
  | 80 => ⟨S3486, .i32⟩
  | 81 => ⟨S3486, .i32⟩
  | 82 => ⟨S3486x1, .i32⟩
  | 83 => ⟨S256x83x32, .f32⟩
  | 84 => ⟨S1x1x32, .f32⟩
  | 85 => ⟨S256x83x32, .f32⟩
  | 86 => ⟨S256x83x32, .f32⟩
  | 87 => ⟨S256x83x32, .f32⟩
  | 88 => ⟨S256x83x64, .f32⟩
  | 89 => ⟨S256x83x32, .f32⟩
  | 90 => ⟨S1x1x32, .f32⟩
  | 91 => ⟨S256x83x32, .f32⟩
  | 92 => ⟨S256x83x32, .f32⟩
  | 93 => ⟨S256x83x32, .f32⟩
  | 94 => ⟨S256x83x32, .f32⟩
  | 95 => ⟨S_, .f32⟩
  | 96 => ⟨S256x83x32, .f32⟩
  | 97 => ⟨S256x83x32, .f32⟩
  | 98 => ⟨S256x83x32, .f32⟩
  | 99 => ⟨S256x83x32, .f32⟩
  | 100 => ⟨S_, .i32⟩
  | 101 => ⟨S_, .i32⟩
  | 102 => ⟨S_, .f32⟩
  | 103 => ⟨S256x83x32, .f32⟩
  | 104 => ⟨S256x83x32, .f32⟩
  | 105 => ⟨S256x83x10, .f32⟩
  | 106 => ⟨S1x1x10, .f32⟩
  | 107 => ⟨S256x83x10, .f32⟩
  | 108 => ⟨S256x83x10, .f32⟩
  | 109 => ⟨S21248x10, .f32⟩
  | 110 => ⟨S256, .i32⟩
  | 111 => ⟨S256x83, .i32⟩
  | 112 => ⟨S21248, .i32⟩
  | 113 => ⟨S_, .f32⟩
  | 114 => ⟨S256x10, .f32⟩
  | 115 => ⟨S21248x1, .i32⟩
  | 116 => ⟨S256x10, .f32⟩
  | 117 => ⟨S_, .f32⟩
  | 118 => ⟨S256x10, .f32⟩
  | 119 => ⟨S256x10, .f32⟩
  | 120 => ⟨S256x37, .f32⟩
  | _ => ⟨S256x20x83x16, .f32⟩

abbrev hbmTy (i : Nat) : BufTy := match i / 128 with
  | 0 => hbmTy0_0 i
  | 1 => hbmTy0_1 i
  | _ => ⟨S256x20x83x16, .f32⟩

abbrev bufTy : (tb : Table) → Fin (tcTables nBuf tb) → BufTy
  | .hbm, ⟨i, _⟩ => hbmTy i
  | _, _ => ⟨S256x20x83x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_7 : Ref sig .tc := ⟨.hbm, 60, rfl⟩
abbrev main_v29 : Ref sig .tc := ⟨.hbm, 61, rfl⟩
abbrev main_v30 : Ref sig .tc := ⟨.hbm, 62, rfl⟩
abbrev main_c_8 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_c_10 : Ref sig .tc := ⟨.hbm, 72, rfl⟩
abbrev main_c_11 : Ref sig .tc := ⟨.hbm, 73, rfl⟩
abbrev main_v38_0 : Ref sig .tc := ⟨.hbm, 74, rfl⟩
abbrev main_v38_1 : Ref sig .tc := ⟨.hbm, 75, rfl⟩
abbrev main_v38_2 : Ref sig .tc := ⟨.hbm, 76, rfl⟩
abbrev main_v38_3 : Ref sig .tc := ⟨.hbm, 77, rfl⟩
abbrev main_v38_4 : Ref sig .tc := ⟨.hbm, 78, rfl⟩
abbrev main_v38_5 : Ref sig .tc := ⟨.hbm, 79, rfl⟩
abbrev main_v38_6 : Ref sig .tc := ⟨.hbm, 80, rfl⟩
abbrev main_v38_7 : Ref sig .tc := ⟨.hbm, 81, rfl⟩
abbrev main_v38_8 : Ref sig .tc := ⟨.hbm, 82, rfl⟩
abbrev main_v38_9 : Ref sig .tc := ⟨.hbm, 83, rfl⟩
abbrev main_v38_10 : Ref sig .tc := ⟨.hbm, 84, rfl⟩
abbrev main_v38_11 : Ref sig .tc := ⟨.hbm, 85, rfl⟩
abbrev main_v38_12 : Ref sig .tc := ⟨.hbm, 86, rfl⟩
abbrev main_v38_13 : Ref sig .tc := ⟨.hbm, 87, rfl⟩
abbrev main_v38_14 : Ref sig .tc := ⟨.hbm, 88, rfl⟩
abbrev main_v38_15 : Ref sig .tc := ⟨.hbm, 89, rfl⟩
abbrev main_v38_16 : Ref sig .tc := ⟨.hbm, 90, rfl⟩
abbrev main_v38_17 : Ref sig .tc := ⟨.hbm, 91, rfl⟩
abbrev main_v38_18 : Ref sig .tc := ⟨.hbm, 92, rfl⟩
abbrev main_while0c_c_32 : Ref sig .tc := ⟨.hbm, 93, rfl⟩
abbrev main_while0c_v54 : Ref sig .tc := ⟨.hbm, 94, rfl⟩
abbrev main_while0b_c_32 : Ref sig .tc := ⟨.hbm, 95, rfl⟩
abbrev main_while0b_v54 : Ref sig .tc := ⟨.hbm, 96, rfl⟩
abbrev main_while0b_call1_c : Ref sig .tc := ⟨.hbm, 97, rfl⟩
abbrev main_while0b_call1_v0 : Ref sig .tc := ⟨.hbm, 98, rfl⟩
abbrev main_while0b_call1_v1 : Ref sig .tc := ⟨.hbm, 99, rfl⟩
abbrev main_while0b_call1_c_0 : Ref sig .tc := ⟨.hbm, 100, rfl⟩
abbrev main_while0b_call1_v2 : Ref sig .tc := ⟨.hbm, 101, rfl⟩
abbrev main_while0b_call1_v3 : Ref sig .tc := ⟨.hbm, 102, rfl⟩
abbrev main_while0b_call1_c_1 : Ref sig .tc := ⟨.hbm, 103, rfl⟩
abbrev main_while0b_call1_c_2 : Ref sig .tc := ⟨.hbm, 104, rfl⟩
abbrev main_while0b_call1_c_3 : Ref sig .tc := ⟨.hbm, 105, rfl⟩
abbrev main_while0b_call1_v4 : Ref sig .tc := ⟨.hbm, 106, rfl⟩
abbrev main_while0b_v55 : Ref sig .tc := ⟨.hbm, 107, rfl⟩
abbrev main_while0b_v56 : Ref sig .tc := ⟨.hbm, 108, rfl⟩
abbrev main_while0b_c_33 : Ref sig .tc := ⟨.hbm, 109, rfl⟩
abbrev main_while0b_v57 : Ref sig .tc := ⟨.hbm, 110, rfl⟩
abbrev main_while0b_v58 : Ref sig .tc := ⟨.hbm, 111, rfl⟩
abbrev main_while0b_c_34 : Ref sig .tc := ⟨.hbm, 112, rfl⟩
abbrev main_while0b_v59 : Ref sig .tc := ⟨.hbm, 113, rfl⟩
abbrev main_while0b_v60 : Ref sig .tc := ⟨.hbm, 114, rfl⟩
abbrev main_while0b_v61 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_cst_35 : Ref sig .tc := ⟨.hbm, 121, rfl⟩
abbrev main_while0b_v67 : Ref sig .tc := ⟨.hbm, 122, rfl⟩
abbrev main_while0b_c_36 : Ref sig .tc := ⟨.hbm, 123, rfl⟩
abbrev main_while0b_v68 : Ref sig .tc := ⟨.hbm, 124, rfl⟩
abbrev main_while0b_v69 : Ref sig .tc := ⟨.hbm, 125, rfl⟩
abbrev main_while0b_c_37 : Ref sig .tc := ⟨.hbm, 126, rfl⟩
abbrev main_while0b_v70 : Ref sig .tc := ⟨.hbm, 127, rfl⟩
abbrev main_while0b_v71 : Ref sig .tc := ⟨.hbm, 128, rfl⟩
abbrev main_while0b_v72 : Ref sig .tc := ⟨.hbm, 129, rfl⟩
abbrev main_while0b_v73 : Ref sig .tc := ⟨.hbm, 130, rfl⟩
abbrev main_while0b_v74 : Ref sig .tc := ⟨.hbm, 131, rfl⟩
abbrev main_while0b_v75 : Ref sig .tc := ⟨.hbm, 132, rfl⟩
abbrev main_while0b_v76 : Ref sig .tc := ⟨.hbm, 133, rfl⟩
abbrev main_while0b_v77 : Ref sig .tc := ⟨.hbm, 134, rfl⟩
abbrev main_while0b_v78 : Ref sig .tc := ⟨.hbm, 135, rfl⟩
abbrev main_while0b_v79 : Ref sig .tc := ⟨.hbm, 136, rfl⟩
abbrev main_while0b_v80 : Ref sig .tc := ⟨.hbm, 137, rfl⟩
abbrev main_while0b_v81 : Ref sig .tc := ⟨.hbm, 138, rfl⟩
abbrev main_while0b_v82 : Ref sig .tc := ⟨.hbm, 139, rfl⟩
abbrev main_while0b_v83 : Ref sig .tc := ⟨.hbm, 140, rfl⟩
abbrev main_while0b_v84 : Ref sig .tc := ⟨.hbm, 141, rfl⟩
abbrev main_while0b_cst_38 : Ref sig .tc := ⟨.hbm, 142, rfl⟩
abbrev main_while0b_v85 : Ref sig .tc := ⟨.hbm, 143, rfl⟩
abbrev main_while0b_v86 : Ref sig .tc := ⟨.hbm, 144, rfl⟩
abbrev main_while0b_cst_39 : Ref sig .tc := ⟨.hbm, 145, rfl⟩
abbrev main_while0b_v87 : Ref sig .tc := ⟨.hbm, 146, rfl⟩
abbrev main_while0b_v88 : Ref sig .tc := ⟨.hbm, 147, rfl⟩
abbrev main_while0b_v89 : Ref sig .tc := ⟨.hbm, 148, rfl⟩
abbrev main_while0b_c_40 : Ref sig .tc := ⟨.hbm, 149, rfl⟩
abbrev main_while0b_v90 : Ref sig .tc := ⟨.hbm, 150, rfl⟩
abbrev main_while0b_v91 : Ref sig .tc := ⟨.hbm, 151, rfl⟩
abbrev main_while0b_c_41 : Ref sig .tc := ⟨.hbm, 152, rfl⟩
abbrev main_while0b_v92 : Ref sig .tc := ⟨.hbm, 153, rfl⟩
abbrev main_while0b_v93 : Ref sig .tc := ⟨.hbm, 154, rfl⟩
abbrev main_while0b_v94 : Ref sig .tc := ⟨.hbm, 155, rfl⟩
abbrev main_while0b_v95 : Ref sig .tc := ⟨.hbm, 156, rfl⟩
abbrev main_while0b_v96 : Ref sig .tc := ⟨.hbm, 157, rfl⟩
abbrev main_while0b_v97 : Ref sig .tc := ⟨.hbm, 158, rfl⟩
abbrev main_while0b_v98 : Ref sig .tc := ⟨.hbm, 159, rfl⟩
abbrev main_while0b_v99 : Ref sig .tc := ⟨.hbm, 160, rfl⟩
abbrev main_while0b_cst_42 : Ref sig .tc := ⟨.hbm, 161, rfl⟩
abbrev main_while0b_v100 : Ref sig .tc := ⟨.hbm, 162, rfl⟩
abbrev main_while0b_c_43 : Ref sig .tc := ⟨.hbm, 163, rfl⟩
abbrev main_while0b_v101 : Ref sig .tc := ⟨.hbm, 164, rfl⟩
abbrev main_while0b_v102 : Ref sig .tc := ⟨.hbm, 165, rfl⟩
abbrev main_while0b_c_44 : Ref sig .tc := ⟨.hbm, 166, rfl⟩
abbrev main_while0b_v103 : Ref sig .tc := ⟨.hbm, 167, rfl⟩
abbrev main_while0b_v104 : Ref sig .tc := ⟨.hbm, 168, rfl⟩
abbrev main_while0b_v105 : Ref sig .tc := ⟨.hbm, 169, rfl⟩
abbrev main_while0b_v106 : Ref sig .tc := ⟨.hbm, 170, rfl⟩
abbrev main_while0b_v107 : Ref sig .tc := ⟨.hbm, 171, rfl⟩
abbrev main_while0b_v108 : Ref sig .tc := ⟨.hbm, 172, rfl⟩
abbrev main_while0b_v109 : Ref sig .tc := ⟨.hbm, 173, rfl⟩
abbrev main_while0b_v110 : Ref sig .tc := ⟨.hbm, 174, rfl⟩
abbrev main_while0b_v111 : Ref sig .tc := ⟨.hbm, 175, rfl⟩
abbrev main_while0b_v112 : Ref sig .tc := ⟨.hbm, 176, rfl⟩
abbrev main_while0b_v113 : Ref sig .tc := ⟨.hbm, 177, rfl⟩
abbrev main_while0b_v114 : Ref sig .tc := ⟨.hbm, 178, rfl⟩
abbrev main_while0b_v115 : Ref sig .tc := ⟨.hbm, 179, rfl⟩
abbrev main_while0b_v116 : Ref sig .tc := ⟨.hbm, 180, rfl⟩
abbrev main_while0b_v117 : Ref sig .tc := ⟨.hbm, 181, rfl⟩
abbrev main_while0b_cst_45 : Ref sig .tc := ⟨.hbm, 182, rfl⟩
abbrev main_while0b_v118 : Ref sig .tc := ⟨.hbm, 183, rfl⟩
abbrev main_while0b_v119 : Ref sig .tc := ⟨.hbm, 184, rfl⟩
abbrev main_while0b_cst_46 : Ref sig .tc := ⟨.hbm, 185, rfl⟩
abbrev main_while0b_v120 : Ref sig .tc := ⟨.hbm, 186, rfl⟩
abbrev main_while0b_v121 : Ref sig .tc := ⟨.hbm, 187, rfl⟩
abbrev main_while0b_v122 : Ref sig .tc := ⟨.hbm, 188, rfl⟩
abbrev main_while0b_c_47 : Ref sig .tc := ⟨.hbm, 189, rfl⟩
abbrev main_while0b_v123 : Ref sig .tc := ⟨.hbm, 190, rfl⟩
abbrev main_while0b_v124 : Ref sig .tc := ⟨.hbm, 191, rfl⟩
abbrev main_while0b_c_48 : Ref sig .tc := ⟨.hbm, 192, rfl⟩
abbrev main_while0b_v125 : Ref sig .tc := ⟨.hbm, 193, rfl⟩
abbrev main_while0b_v126 : Ref sig .tc := ⟨.hbm, 194, rfl⟩
abbrev main_while0b_v127 : Ref sig .tc := ⟨.hbm, 195, rfl⟩
abbrev main_while0b_v128 : Ref sig .tc := ⟨.hbm, 196, rfl⟩
abbrev main_while0b_v129 : Ref sig .tc := ⟨.hbm, 197, rfl⟩
abbrev main_while0b_v130 : Ref sig .tc := ⟨.hbm, 198, rfl⟩
abbrev main_while0b_v131 : Ref sig .tc := ⟨.hbm, 199, rfl⟩
abbrev main_while0b_v132 : Ref sig .tc := ⟨.hbm, 200, rfl⟩
abbrev main_while0b_cst_49 : Ref sig .tc := ⟨.hbm, 201, rfl⟩
abbrev main_while0b_v133 : Ref sig .tc := ⟨.hbm, 202, rfl⟩
abbrev main_while0b_c_50 : Ref sig .tc := ⟨.hbm, 203, rfl⟩
abbrev main_while0b_v134 : Ref sig .tc := ⟨.hbm, 204, rfl⟩
abbrev main_while0b_v135 : Ref sig .tc := ⟨.hbm, 205, rfl⟩
abbrev main_while0b_c_51 : Ref sig .tc := ⟨.hbm, 206, rfl⟩
abbrev main_while0b_v136 : Ref sig .tc := ⟨.hbm, 207, rfl⟩
abbrev main_while0b_v137 : Ref sig .tc := ⟨.hbm, 208, rfl⟩
abbrev main_while0b_v138 : Ref sig .tc := ⟨.hbm, 209, rfl⟩
abbrev main_while0b_v139 : Ref sig .tc := ⟨.hbm, 210, rfl⟩
abbrev main_while0b_v140 : Ref sig .tc := ⟨.hbm, 211, rfl⟩
abbrev main_while0b_v141 : Ref sig .tc := ⟨.hbm, 212, rfl⟩
abbrev main_while0b_v142 : Ref sig .tc := ⟨.hbm, 213, rfl⟩
abbrev main_while0b_v143 : Ref sig .tc := ⟨.hbm, 214, rfl⟩
abbrev main_while0b_v144 : Ref sig .tc := ⟨.hbm, 215, rfl⟩
abbrev main_while0b_v145 : Ref sig .tc := ⟨.hbm, 216, rfl⟩
abbrev main_while0b_v146 : Ref sig .tc := ⟨.hbm, 217, rfl⟩
abbrev main_while0b_v147 : Ref sig .tc := ⟨.hbm, 218, rfl⟩
abbrev main_while0b_v148 : Ref sig .tc := ⟨.hbm, 219, rfl⟩
abbrev main_while0b_v149 : Ref sig .tc := ⟨.hbm, 220, rfl⟩
abbrev main_while0b_v150 : Ref sig .tc := ⟨.hbm, 221, rfl⟩
abbrev main_while0b_v151 : Ref sig .tc := ⟨.hbm, 222, rfl⟩
abbrev main_while0b_cst_52 : Ref sig .tc := ⟨.hbm, 223, rfl⟩
abbrev main_while0b_v152 : Ref sig .tc := ⟨.hbm, 224, rfl⟩
abbrev main_while0b_v153 : Ref sig .tc := ⟨.hbm, 225, rfl⟩
abbrev main_while0b_v154 : Ref sig .tc := ⟨.hbm, 226, rfl⟩
abbrev main_while0b_v155 : Ref sig .tc := ⟨.hbm, 227, rfl⟩
abbrev main_while0b_c_53 : Ref sig .tc := ⟨.hbm, 228, rfl⟩
abbrev main_while0b_v156 : Ref sig .tc := ⟨.hbm, 229, rfl⟩
abbrev main_call2_cst : Ref sig .tc := ⟨.hbm, 230, rfl⟩
abbrev main_call2_v0 : Ref sig .tc := ⟨.hbm, 231, rfl⟩
abbrev main_v39 : Ref sig .tc := ⟨.hbm, 232, rfl⟩
abbrev main_v40 : Ref sig .tc := ⟨.hbm, 233, rfl⟩
abbrev main_v41 : Ref sig .tc := ⟨.hbm, 234, rfl⟩
abbrev main_v42 : Ref sig .tc := ⟨.hbm, 235, rfl⟩
abbrev main_v43 : Ref sig .tc := ⟨.hbm, 236, rfl⟩
abbrev main_v44 : Ref sig .tc := ⟨.hbm, 237, rfl⟩
abbrev main_v45 : Ref sig .tc := ⟨.hbm, 238, rfl⟩
abbrev main_v46 : Ref sig .tc := ⟨.hbm, 239, rfl⟩
abbrev main_v47 : Ref sig .tc := ⟨.hbm, 240, rfl⟩
abbrev main_cst_12 : Ref sig .tc := ⟨.hbm, 241, rfl⟩
abbrev main_v48 : Ref sig .tc := ⟨.hbm, 242, rfl⟩
abbrev main_v49 : Ref sig .tc := ⟨.hbm, 243, rfl⟩
abbrev main_v50 : Ref sig .tc := ⟨.hbm, 244, rfl⟩
abbrev main_cst_13 : Ref sig .tc := ⟨.hbm, 245, rfl⟩
abbrev main_v51 : Ref sig .tc := ⟨.hbm, 246, rfl⟩
abbrev main_v52 : Ref sig .tc := ⟨.hbm, 247, rfl⟩
abbrev main_v53 : Ref sig .tc := ⟨.hbm, 248, rfl⟩

abbrev nD : Nat := 1
abbrev τ : Topo := Topo.v7x

variable {F : FTy → Type} [FloatOps F]

abbrev main_while0_count : Scf.Loop 32 := ⟨0#32, 20#32, 1#32⟩
-- ==== Proof.Chain.lean ====
/- The kernel body's stored value, spelled once: its payloads are twenty steps of one gated recurrence over the mixed features, then a pooled
   linear layer. -/
module

public import proofs.«01_k».proof.Proof.Gen.KernelIdeal.Skeleton

@[expose] public section

set_option maxRecDepth 16384

noncomputable section

namespace Cert.KernelIdeal.Tgcn

open Idealize.ShloMosaic Idealize.SL.Sem Cert.KernelIdeal Cert.KernelIdeal.Gen

variable {F : FTy → Type} [FloatOps F] [Named F]

/-- The 128 columns of the mixed features that hold steps `2 * p` and `2 * p + 1`. -/
def pairCols (mx : Vec F S1408x1280 .bf16) : ℕ → FVec F S1408x128 .bf16
  | 0 => extractStridedSlice S1408x128 ![0, 0] mx slices_S1408x1280_o0_0_S1408x128
  | 1 => extractStridedSlice S1408x128 ![0, 128] mx slices_S1408x1280_o0_128_S1408x128
  | 2 => extractStridedSlice S1408x128 ![0, 256] mx slices_S1408x1280_o0_256_S1408x128
  | 3 => extractStridedSlice S1408x128 ![0, 384] mx slices_S1408x1280_o0_384_S1408x128
  | 4 => extractStridedSlice S1408x128 ![0, 512] mx slices_S1408x1280_o0_512_S1408x128
  | 5 => extractStridedSlice S1408x128 ![0, 640] mx slices_S1408x1280_o0_640_S1408x128
  | 6 => extractStridedSlice S1408x128 ![0, 768] mx slices_S1408x1280_o0_768_S1408x128
  | 7 => extractStridedSlice S1408x128 ![0, 896] mx slices_S1408x1280_o0_896_S1408x128
  | 8 => extractStridedSlice S1408x128 ![0, 1024] mx slices_S1408x1280_o0_1024_S1408x128
  | _ => extractStridedSlice S1408x128 ![0, 1152] mx slices_S1408x1280_o0_1152_S1408x128

/-- The three gates' input part: the folded weights applied to a pair of steps' columns, plus the folded bias. -/
def inGates (A : FVec F S128x384 .bf16) (c : FVec F S1x384 .f32) (s : FVec F S1408x128 .bf16) : FVec F S1408x384 .f32 :=
  addf (matmul dot_S1408x128_S128x384_S1408x384_1_0_0_1_n_n none s A (constant S1408x384 .f32 0x00000000#32)) (broadcastTo S1408x384 c broadcasts_S1x384_S1408x384)

/-- The update and reset gates before their nonlinearity. -/
def zrIn (U : FVec F S128x256 .bf16) (g : FVec F S1408x384 .f32) (h : FVec F S1408x128 .f32) : FVec F S1408x256 .f32 :=
  addf (extractStridedSlice S1408x256 ![0, 0] g slices_S1408x384_o0_0_S1408x256)
    (matmul dot_S1408x128_S128x256_S1408x256_1_0_0_1_n_n none (truncf .bf16 h bitsLt_bf16_f32) U (constant S1408x256 .f32 0x00000000#32))

/-- The vector of halves. -/
def half : FVec F S1408x128 .f32 := broadcast S1408x128 (Scalar.ofBits .f32 0x3F000000#32)

/-- The vector of ones. -/
def one : FVec F S1408x128 .f32 := broadcast S1408x128 (Scalar.ofBits .f32 0x3F800000#32)

/-- Half the hyperbolic tangent of half the argument. -/
def halfTanh (x : FVec F S1408x128 .f32) : FVec F S1408x128 .f32 := mulf half (tanh (mulf half x))

/-- The update gate's columns. -/
def zCols (y : FVec F S1408x256 .f32) : FVec F S1408x128 .f32 := extractStridedSlice S1408x128 ![0, 0] y slices_S1408x256_o0_0_S1408x128

/-- The reset gate's columns. -/
def rCols (y : FVec F S1408x256 .f32) : FVec F S1408x128 .f32 := extractStridedSlice S1408x128 ![0, 128] y slices_S1408x256_o0_128_S1408x128

/-- The update gate. -/
def zGate (y : FVec F S1408x256 .f32) : FVec F S1408x128 .f32 := addf half (halfTanh (zCols y))

/-- The reset gate. -/
def rGate (y : FVec F S1408x256 .f32) : FVec F S1408x128 .f32 := addf half (halfTanh (rCols y))

/-- The candidate state. -/
def cand (Uh : FVec F S128x128 .bf16) (g : FVec F S1408x384 .f32) (h r : FVec F S1408x128 .f32) : FVec F S1408x128 .f32 :=
  tanh (addf (extractStridedSlice S1408x128 ![0, 256] g slices_S1408x384_o0_256_S1408x128)
    (matmul dot_S1408x128_S128x128_S1408x128_1_0_0_1_n_n none (truncf .bf16 (mulf h r) bitsLt_bf16_f32) Uh (constant S1408x128 .f32 0x00000000#32)))

/-- One step of the recurrence, from the input part of the gates and the state. -/
def next (U : FVec F S128x256 .bf16) (Uh : FVec F S128x128 .bf16) (g : FVec F S1408x384 .f32) (h : FVec F S1408x128 .f32) : FVec F S1408x128 .f32 :=
  addf (mulf (zGate (zrIn U g h)) h) (mulf (subf one (zGate (zrIn U g h))) (cand Uh g h (rGate (zrIn U g h))))

/-- The gates' input part at step `k`: even steps read the upper half of the pair's columns, odd ones the lower. -/
def stepGates (mx : Vec F S1408x1280 .bf16) (A0 A1 : FVec F S128x384 .bf16) (c : FVec F S1x384 .f32) (k : ℕ) : FVec F S1408x384 .f32 :=
  inGates (if k % 2 = 0 then A0 else A1) c (pairCols mx (k / 2))

/-- The state after `k` steps, from zero. -/
def hid (mx : Vec F S1408x1280 .bf16) (A0 A1 : FVec F S128x384 .bf16) (c : FVec F S1x384 .f32) (U : FVec F S128x256 .bf16) (Uh : FVec F S128x128 .bf16) :
    ℕ → FVec F S1408x128 .f32
  | 0 => broadcast S1408x128 (Scalar.ofBits .f32 0x00000000#32)
  | k + 1 => next U Uh (stepGates mx A0 A1 c k) (hid mx A0 A1 c U Uh k)

/-- The pooled linear layer of the final state. -/
def pooled (h : FVec F S1408x128 .f32) (L : Vec F S128x40 .f32) (b : Vec F S1x40 .f32) : FVec F S1x16x40 .f32 :=
  shapeCast S1x16x40 (addf (matmul dot_S16x128_S128x40_S16x40_1_0_0_1_n_n none
    (mulf (multiReduction .add [1] S16x128
      (mulf (shapeCast S16x88x128 (maximumf h (broadcast S1408x128 (Scalar.ofBits .f32 0x00000000#32))) shapeCasts_S1408x128_S16x88x128)
        (sitofp .f32 (extui 32 (cmpi .slt (iota .tc S16x88x128 32 [1] iota_S16x88x128_d1_w32) (broadcast S16x88x128 83#32)) natLt_1_32)))
      0x00000000#32 reduces_S16x88x128_S16x128 (.inl rfl) rfl) (broadcast S16x128 (Named.named κ "mean" 0x3C4565C8#32)))
    (shapeCast S128x40 L shapeCasts_S128x40_S128x40) (constant S16x40 .f32 0x00000000#32))
    (broadcastTo S16x40 (shapeCast S1x40 b shapeCasts_S1x40_S1x40) broadcasts_S1x40_S16x40)) shapeCasts_S16x40_S1x16x40

variable (mx : Vec F S1408x1280 .bf16) (A0 A1 : FVec F S128x384 .bf16) (c : FVec F S1x384 .f32) (U : FVec F S128x256 .bf16) (Uh : FVec F S128x128 .bf16)

/-- The part of step `k + 1` that carries the state over. -/
def keep (k : ℕ) : FVec F S1408x128 .f32 := mulf (zGate (zrIn U (stepGates mx A0 A1 c k) (hid mx A0 A1 c U Uh k))) (hid mx A0 A1 c U Uh k)

/-- The part of step `k + 1` that brings in the candidate. -/
def bring (k : ℕ) : FVec F S1408x128 .f32 :=
  mulf (subf one (zGate (zrIn U (stepGates mx A0 A1 c k) (hid mx A0 A1 c U Uh k)))) (cand Uh (stepGates mx A0 A1 c k) (hid mx A0 A1 c U Uh k) (rGate (zrIn U (stepGates mx A0 A1 c k) (hid mx A0 A1 c U Uh k))))

/-- Step 1's carried part. -/
theorem pay35_eq : k0_pay35 mx A1 c U Uh (hid mx A0 A1 c U Uh 0) (stepGates mx A0 A1 c 0) (zGate (zrIn U (stepGates mx A0 A1 c 0) (hid mx A0 A1 c U Uh 0))) (halfTanh (rCols (zrIn U (stepGates mx A0 A1 c 0) (hid mx A0 A1 c U Uh 0)))) = keep mx A0 A1 c U Uh 1 := rfl

/-- Step 1's new part. -/
theorem pay36_eq : k0_pay36 mx A1 c U Uh (hid mx A0 A1 c U Uh 0) (stepGates mx A0 A1 c 0) (zGate (zrIn U (stepGates mx A0 A1 c 0) (hid mx A0 A1 c U Uh 0))) (halfTanh (rCols (zrIn U (stepGates mx A0 A1 c 0) (hid mx A0 A1 c U Uh 0)))) = bring mx A0 A1 c U Uh 1 := rfl

/-- The state after step 2. -/
theorem pay37_eq : k0_pay37 mx A0 c U Uh (keep mx A0 A1 c U Uh 1) (bring mx A0 A1 c U Uh 1) = hid mx A0 A1 c U Uh 3 := rfl

/-- The input part of step 3. -/
theorem pay38_eq : k0_pay38 mx A1 c = stepGates mx A0 A1 c 3 := rfl

/-- Step 3's two gates before the nonlinearity. -/
theorem pay39_eq : k0_pay39 mx A0 A1 c U Uh (keep mx A0 A1 c U Uh 1) (bring mx A0 A1 c U Uh 1) = zrIn U (stepGates mx A0 A1 c 3) (hid mx A0 A1 c U Uh 3) := rfl

/-- Half of step 3's update gate before the nonlinearity. -/
theorem pay40_eq : k0_pay40 mx A0 A1 c U Uh (keep mx A0 A1 c U Uh 1) (bring mx A0 A1 c U Uh 1) = mulf half (zCols (zrIn U (stepGates mx A0 A1 c 3) (hid mx A0 A1 c U Uh 3))) := rfl

/-- The state after step 3. -/
theorem pay41_eq : k0_pay41 Uh (hid mx A0 A1 c U Uh 3) (stepGates mx A0 A1 c 3) (zrIn U (stepGates mx A0 A1 c 3) (hid mx A0 A1 c U Uh 3)) (mulf half (zCols (zrIn U (stepGates mx A0 A1 c 3) (hid mx A0 A1 c U Uh 3)))) = hid mx A0 A1 c U Uh 4 := rfl

/-- The input part of step 4. -/
theorem pay42_eq : k0_pay42 mx A0 c = stepGates mx A0 A1 c 4 := rfl

/-- Step 4's update gate. -/
theorem pay44_eq : k0_pay44 mx A0 c U Uh (hid mx A0 A1 c U Uh 3) (stepGates mx A0 A1 c 3) (zrIn U (stepGates mx A0 A1 c 3) (hid mx A0 A1 c U Uh 3)) (mulf half (zCols (zrIn U (stepGates mx A0 A1 c 3) (hid mx A0 A1 c U Uh 3)))) = zGate (zrIn U (stepGates mx A0 A1 c 4) (hid mx A0 A1 c U Uh 4)) := rfl

/-- Step 4's reset gate, short of its half. -/
theorem pay45_eq : k0_pay45 mx A0 c U Uh (hid mx A0 A1 c U Uh 3) (stepGates mx A0 A1 c 3) (zrIn U (stepGates mx A0 A1 c 3) (hid mx A0 A1 c U Uh 3)) (mulf half (zCols (zrIn U (stepGates mx A0 A1 c 3) (hid mx A0 A1 c U Uh 3)))) = halfTanh (rCols (zrIn U (stepGates mx A0 A1 c 4) (hid mx A0 A1 c U Uh 4))) := rfl

/-- Step 5's carried part. -/
theorem pay50_eq : k0_pay50 mx A1 c U Uh (hid mx A0 A1 c U Uh 4) (stepGates mx A0 A1 c 4) (zGate (zrIn U (stepGates mx A0 A1 c 4) (hid mx A0 A1 c U Uh 4))) (halfTanh (rCols (zrIn U (stepGates mx A0 A1 c 4) (hid mx A0 A1 c U Uh 4)))) = keep mx A0 A1 c U Uh 5 := rfl

/-- Step 5's new part. -/
theorem pay51_eq : k0_pay51 mx A1 c U Uh (hid mx A0 A1 c U Uh 4) (stepGates mx A0 A1 c 4) (zGate (zrIn U (stepGates mx A0 A1 c 4) (hid mx A0 A1 c U Uh 4))) (halfTanh (rCols (zrIn U (stepGates mx A0 A1 c 4) (hid mx A0 A1 c U Uh 4)))) = bring mx A0 A1 c U Uh 5 := rfl

/-- The state after step 6. -/
theorem pay52_eq : k0_pay52 mx A0 c U Uh (keep mx A0 A1 c U Uh 5) (bring mx A0 A1 c U Uh 5) = hid mx A0 A1 c U Uh 7 := rfl

/-- The input part of step 7. -/
theorem pay53_eq : k0_pay53 mx A1 c = stepGates mx A0 A1 c 7 := rfl

/-- Step 7's two gates before the nonlinearity. -/
theorem pay54_eq : k0_pay54 mx A0 A1 c U Uh (keep mx A0 A1 c U Uh 5) (bring mx A0 A1 c U Uh 5) = zrIn U (stepGates mx A0 A1 c 7) (hid mx A0 A1 c U Uh 7) := rfl

/-- Half of step 7's update gate before the nonlinearity. -/
theorem pay55_eq : k0_pay55 mx A0 A1 c U Uh (keep mx A0 A1 c U Uh 5) (bring mx A0 A1 c U Uh 5) = mulf half (zCols (zrIn U (stepGates mx A0 A1 c 7) (hid mx A0 A1 c U Uh 7))) := rfl

/-- The state after step 7. -/
theorem pay56_eq : k0_pay56 Uh (hid mx A0 A1 c U Uh 7) (stepGates mx A0 A1 c 7) (zrIn U (stepGates mx A0 A1 c 7) (hid mx A0 A1 c U Uh 7)) (mulf half (zCols (zrIn U (stepGates mx A0 A1 c 7) (hid mx A0 A1 c U Uh 7)))) = hid mx A0 A1 c U Uh 8 := rfl

/-- The input part of step 8. -/
theorem pay57_eq : k0_pay57 mx A0 c = stepGates mx A0 A1 c 8 := rfl

/-- Step 8's update gate. -/
theorem pay59_eq : k0_pay59 mx A0 c U Uh (hid mx A0 A1 c U Uh 7) (stepGates mx A0 A1 c 7) (zrIn U (stepGates mx A0 A1 c 7) (hid mx A0 A1 c U Uh 7)) (mulf half (zCols (zrIn U (stepGates mx A0 A1 c 7) (hid mx A0 A1 c U Uh 7)))) = zGate (zrIn U (stepGates mx A0 A1 c 8) (hid mx A0 A1 c U Uh 8)) := rfl

/-- Step 8's reset gate, short of its half. -/
theorem pay60_eq : k0_pay60 mx A0 c U Uh (hid mx A0 A1 c U Uh 7) (stepGates mx A0 A1 c 7) (zrIn U (stepGates mx A0 A1 c 7) (hid mx A0 A1 c U Uh 7)) (mulf half (zCols (zrIn U (stepGates mx A0 A1 c 7) (hid mx A0 A1 c U Uh 7)))) = halfTanh (rCols (zrIn U (stepGates mx A0 A1 c 8) (hid mx A0 A1 c U Uh 8))) := rfl

/-- Step 9's carried part. -/
theorem pay65_eq : k0_pay65 mx A1 c U Uh (hid mx A0 A1 c U Uh 8) (stepGates mx A0 A1 c 8) (zGate (zrIn U (stepGates mx A0 A1 c 8) (hid mx A0 A1 c U Uh 8))) (halfTanh (rCols (zrIn U (stepGates mx A0 A1 c 8) (hid mx A0 A1 c U Uh 8)))) = keep mx A0 A1 c U Uh 9 := rfl

/-- Step 9's new part. -/
theorem pay66_eq : k0_pay66 mx A1 c U Uh (hid mx A0 A1 c U Uh 8) (stepGates mx A0 A1 c 8) (zGate (zrIn U (stepGates mx A0 A1 c 8) (hid mx A0 A1 c U Uh 8))) (halfTanh (rCols (zrIn U (stepGates mx A0 A1 c 8) (hid mx A0 A1 c U Uh 8)))) = bring mx A0 A1 c U Uh 9 := rfl

/-- The state after step 10. -/
theorem pay67_eq : k0_pay67 mx A0 c U Uh (keep mx A0 A1 c U Uh 9) (bring mx A0 A1 c U Uh 9) = hid mx A0 A1 c U Uh 11 := rfl

/-- The input part of step 11. -/
theorem pay68_eq : k0_pay68 mx A1 c = stepGates mx A0 A1 c 11 := rfl

/-- Step 11's two gates before the nonlinearity. -/
theorem pay69_eq : k0_pay69 mx A0 A1 c U Uh (keep mx A0 A1 c U Uh 9) (bring mx A0 A1 c U Uh 9) = zrIn U (stepGates mx A0 A1 c 11) (hid mx A0 A1 c U Uh 11) := rfl

/-- Half of step 11's update gate before the nonlinearity. -/
theorem pay70_eq : k0_pay70 mx A0 A1 c U Uh (keep mx A0 A1 c U Uh 9) (bring mx A0 A1 c U Uh 9) = mulf half (zCols (zrIn U (stepGates mx A0 A1 c 11) (hid mx A0 A1 c U Uh 11))) := rfl

/-- The state after step 11. -/
theorem pay71_eq : k0_pay71 Uh (hid mx A0 A1 c U Uh 11) (stepGates mx A0 A1 c 11) (zrIn U (stepGates mx A0 A1 c 11) (hid mx A0 A1 c U Uh 11)) (mulf half (zCols (zrIn U (stepGates mx A0 A1 c 11) (hid mx A0 A1 c U Uh 11)))) = hid mx A0 A1 c U Uh 12 := rfl

/-- The input part of step 12. -/
theorem pay72_eq : k0_pay72 mx A0 c = stepGates mx A0 A1 c 12 := rfl

/-- Step 12's update gate. -/
theorem pay74_eq : k0_pay74 mx A0 c U Uh (hid mx A0 A1 c U Uh 11) (stepGates mx A0 A1 c 11) (zrIn U (stepGates mx A0 A1 c 11) (hid mx A0 A1 c U Uh 11)) (mulf half (zCols (zrIn U (stepGates mx A0 A1 c 11) (hid mx A0 A1 c U Uh 11)))) = zGate (zrIn U (stepGates mx A0 A1 c 12) (hid mx A0 A1 c U Uh 12)) := rfl

/-- Step 12's reset gate, short of its half. -/
theorem pay75_eq : k0_pay75 mx A0 c U Uh (hid mx A0 A1 c U Uh 11) (stepGates mx A0 A1 c 11) (zrIn U (stepGates mx A0 A1 c 11) (hid mx A0 A1 c U Uh 11)) (mulf half (zCols (zrIn U (stepGates mx A0 A1 c 11) (hid mx A0 A1 c U Uh 11)))) = halfTanh (rCols (zrIn U (stepGates mx A0 A1 c 12) (hid mx A0 A1 c U Uh 12))) := rfl

/-- Step 13's carried part. -/
theorem pay80_eq : k0_pay80 mx A1 c U Uh (hid mx A0 A1 c U Uh 12) (stepGates mx A0 A1 c 12) (zGate (zrIn U (stepGates mx A0 A1 c 12) (hid mx A0 A1 c U Uh 12))) (halfTanh (rCols (zrIn U (stepGates mx A0 A1 c 12) (hid mx A0 A1 c U Uh 12)))) = keep mx A0 A1 c U Uh 13 := rfl

/-- Step 13's new part. -/
theorem pay81_eq : k0_pay81 mx A1 c U Uh (hid mx A0 A1 c U Uh 12) (stepGates mx A0 A1 c 12) (zGate (zrIn U (stepGates mx A0 A1 c 12) (hid mx A0 A1 c U Uh 12))) (halfTanh (rCols (zrIn U (stepGates mx A0 A1 c 12) (hid mx A0 A1 c U Uh 12)))) = bring mx A0 A1 c U Uh 13 := rfl

/-- The state after step 14. -/
theorem pay82_eq : k0_pay82 mx A0 c U Uh (keep mx A0 A1 c U Uh 13) (bring mx A0 A1 c U Uh 13) = hid mx A0 A1 c U Uh 15 := rfl

/-- The input part of step 15. -/
theorem pay83_eq : k0_pay83 mx A1 c = stepGates mx A0 A1 c 15 := rfl

/-- Step 15's two gates before the nonlinearity. -/
theorem pay84_eq : k0_pay84 mx A0 A1 c U Uh (keep mx A0 A1 c U Uh 13) (bring mx A0 A1 c U Uh 13) = zrIn U (stepGates mx A0 A1 c 15) (hid mx A0 A1 c U Uh 15) := rfl

/-- Half of step 15's update gate before the nonlinearity. -/
theorem pay85_eq : k0_pay85 mx A0 A1 c U Uh (keep mx A0 A1 c U Uh 13) (bring mx A0 A1 c U Uh 13) = mulf half (zCols (zrIn U (stepGates mx A0 A1 c 15) (hid mx A0 A1 c U Uh 15))) := rfl

/-- The state after step 15. -/
theorem pay86_eq : k0_pay86 Uh (hid mx A0 A1 c U Uh 15) (stepGates mx A0 A1 c 15) (zrIn U (stepGates mx A0 A1 c 15) (hid mx A0 A1 c U Uh 15)) (mulf half (zCols (zrIn U (stepGates mx A0 A1 c 15) (hid mx A0 A1 c U Uh 15)))) = hid mx A0 A1 c U Uh 16 := rfl

/-- The input part of step 16. -/
theorem pay87_eq : k0_pay87 mx A0 c = stepGates mx A0 A1 c 16 := rfl

/-- Step 16's update gate. -/
theorem pay89_eq : k0_pay89 mx A0 c U Uh (hid mx A0 A1 c U Uh 15) (stepGates mx A0 A1 c 15) (zrIn U (stepGates mx A0 A1 c 15) (hid mx A0 A1 c U Uh 15)) (mulf half (zCols (zrIn U (stepGates mx A0 A1 c 15) (hid mx A0 A1 c U Uh 15)))) = zGate (zrIn U (stepGates mx A0 A1 c 16) (hid mx A0 A1 c U Uh 16)) := rfl

/-- Step 16's reset gate, short of its half. -/
theorem pay90_eq : k0_pay90 mx A0 c U Uh (hid mx A0 A1 c U Uh 15) (stepGates mx A0 A1 c 15) (zrIn U (stepGates mx A0 A1 c 15) (hid mx A0 A1 c U Uh 15)) (mulf half (zCols (zrIn U (stepGates mx A0 A1 c 15) (hid mx A0 A1 c U Uh 15)))) = halfTanh (rCols (zrIn U (stepGates mx A0 A1 c 16) (hid mx A0 A1 c U Uh 16))) := rfl

/-- Step 17's carried part. -/
theorem pay95_eq : k0_pay95 mx A1 c U Uh (hid mx A0 A1 c U Uh 16) (stepGates mx A0 A1 c 16) (zGate (zrIn U (stepGates mx A0 A1 c 16) (hid mx A0 A1 c U Uh 16))) (halfTanh (rCols (zrIn U (stepGates mx A0 A1 c 16) (hid mx A0 A1 c U Uh 16)))) = keep mx A0 A1 c U Uh 17 := rfl

/-- Step 17's new part. -/
theorem pay96_eq : k0_pay96 mx A1 c U Uh (hid mx A0 A1 c U Uh 16) (stepGates mx A0 A1 c 16) (zGate (zrIn U (stepGates mx A0 A1 c 16) (hid mx A0 A1 c U Uh 16))) (halfTanh (rCols (zrIn U (stepGates mx A0 A1 c 16) (hid mx A0 A1 c U Uh 16)))) = bring mx A0 A1 c U Uh 17 := rfl

/-- The state after step 18. -/
theorem pay97_eq : k0_pay97 mx A0 c U Uh (keep mx A0 A1 c U Uh 17) (bring mx A0 A1 c U Uh 17) = hid mx A0 A1 c U Uh 19 := rfl

/-- The input part of step 19. -/
theorem pay98_eq : k0_pay98 mx A1 c = stepGates mx A0 A1 c 19 := rfl

/-- Step 19's two gates before the nonlinearity. -/
theorem pay99_eq : k0_pay99 mx A0 A1 c U Uh (keep mx A0 A1 c U Uh 17) (bring mx A0 A1 c U Uh 17) = zrIn U (stepGates mx A0 A1 c 19) (hid mx A0 A1 c U Uh 19) := rfl

/-- Half of step 19's update gate before the nonlinearity. -/
theorem pay100_eq : k0_pay100 mx A0 A1 c U Uh (keep mx A0 A1 c U Uh 17) (bring mx A0 A1 c U Uh 17) = mulf half (zCols (zrIn U (stepGates mx A0 A1 c 19) (hid mx A0 A1 c U Uh 19))) := rfl

/-- The stored value is the pooled layer of the state after twenty steps. -/
theorem pay101_eq (L : Vec F S128x40 .f32) (b : Vec F S1x40 .f32) : k0_pay101 Uh (hid mx A0 A1 c U Uh 19) (stepGates mx A0 A1 c 19) (zrIn U (stepGates mx A0 A1 c 19) (hid mx A0 A1 c U Uh 19)) (mulf half (zCols (zrIn U (stepGates mx A0 A1 c 19) (hid mx A0 A1 c U Uh 19)))) L b = pooled (hid mx A0 A1 c U Uh 20) L b := rfl

/-- The first step's input part. -/
theorem pay27_eq (a0 : Vec F S128x384 .bf16) (c0 : Vec F S1x384 .f32) : k0_pay27 mx a0 c0 = stepGates mx (k0_pay21 a0) A1 (k0_pay23 c0) 0 := rfl

/-- The first step's update gate. -/
theorem pay29_eq (a0 : Vec F S128x384 .bf16) (c0 : Vec F S1x384 .f32) (u0 : Vec F S128x256 .bf16) :
    k0_pay29 mx a0 c0 u0 = zGate (zrIn (k0_pay24 u0) (stepGates mx (k0_pay21 a0) A1 (k0_pay23 c0) 0) (hid mx (k0_pay21 a0) A1 (k0_pay23 c0) (k0_pay24 u0) Uh 0)) := rfl

/-- The first step's reset gate, short of its half. -/
theorem pay30_eq (a0 : Vec F S128x384 .bf16) (c0 : Vec F S1x384 .f32) (u0 : Vec F S128x256 .bf16) :
    k0_pay30 mx a0 c0 u0
      = halfTanh (rCols (zrIn (k0_pay24 u0) (stepGates mx (k0_pay21 a0) A1 (k0_pay23 c0) 0) (hid mx (k0_pay21 a0) A1 (k0_pay23 c0) (k0_pay24 u0) Uh 0))) := rfl

/-- The state before the first step. -/
theorem pay26_eq : k0_pay26 (F := F) = hid mx A0 A1 c U Uh 0 := rfl

end Cert.KernelIdeal.Tgcn

end
-- ==== Proof.Region.lean ====
/- The kernel body's stored block: the mixed features are written row block by row block to the scratch and read back whole, and the block is the
   pooled layer of the recurrence over them. -/
module

public import proofs.«01_k».proof.Proof.Chain
public import proofs.«01_k».proof.Proof.Gen.KernelIdeal.Run
public import Idealize.ShloMosaic.Lib.Pipeline.ValueKit

@[expose] public section

set_option maxRecDepth 16384

noncomputable section

namespace Cert.KernelIdeal.Tgcn

open Idealize.ShloMosaic Idealize.ShloMosaic.TcCoe Idealize.SL.Sem Cert.KernelIdeal Cert.KernelIdeal.Gen
open Idealize.ShloMosaic.Pipeline (Dat)

/-- Two zero offsets. -/
theorem hz2 : (![0, 0] : Fin 2 → Nat) = fun _ => 0 := funext fun a => by fin_cases a <;> rfl

/-- Three zero offsets. -/
theorem hz3 : (![0, 0, 0] : Fin 3 → Nat) = fun _ => 0 := funext fun a => by fin_cases a <;> rfl

/-- The mixed features: row `88 * g + n` is the mixing matrix's row `n` applied to batch group `g`. -/
def mixRows (x0 : Vec Ideal S16x83x1280 .bf16) (x1 : Vec Ideal S88x83 .bf16) : Vec Ideal S1408x1280 .bf16 :=
  fun y => ∑ n : Fin 83, (x1 (ix2 (⟨(y 0).val % 88, by omega⟩ : Fin 88) n) : EReal)
    * x0 (ix3 (⟨(y 0).val / 88, by have h : (y 0).val < 1408 := (y 0).isLt; omega⟩ : Fin 16) n (⟨(y 1).val, (y 1).isLt⟩ : Fin 1280))

/-- The scratch, read whole after its sixteen stores, holds the mixed features. -/
theorem mix_eq (v : View sig .tc .vmem S1408x1280 .bf16) (x0 : Vec Ideal S16x83x1280 .bf16) (x1 : Vec Ideal S88x83 .bf16) :
    v.readCov (Val := Elt Ideal) [⟨Rect.unit ![1320, 0] ![88, 1280] inb_S1408x1280_S88x1280_1320_0, k0_pay20 (k0_pay19 (k0_pay1 x1) (k0_pay2 x0))⟩, ⟨Rect.unit ![1232, 0] ![88, 1280] inb_S1408x1280_S88x1280_1232_0, k0_pay18 (k0_pay1 x1) (k0_pay2 x0)⟩, ⟨Rect.unit ![1144, 0] ![88, 1280] inb_S1408x1280_S88x1280_1144_0, k0_pay17 (k0_pay1 x1) (k0_pay2 x0)⟩, ⟨Rect.unit ![1056, 0] ![88, 1280] inb_S1408x1280_S88x1280_1056_0, k0_pay16 (k0_pay1 x1) (k0_pay2 x0)⟩, ⟨Rect.unit ![968, 0] ![88, 1280] inb_S1408x1280_S88x1280_968_0, k0_pay15 (k0_pay1 x1) (k0_pay2 x0)⟩, ⟨Rect.unit ![880, 0] ![88, 1280] inb_S1408x1280_S88x1280_880_0, k0_pay14 (k0_pay1 x1) (k0_pay2 x0)⟩, ⟨Rect.unit ![792, 0] ![88, 1280] inb_S1408x1280_S88x1280_792_0, k0_pay13 (k0_pay1 x1) (k0_pay2 x0)⟩, ⟨Rect.unit ![704, 0] ![88, 1280] inb_S1408x1280_S88x1280_704_0, k0_pay12 (k0_pay1 x1) (k0_pay2 x0)⟩, ⟨Rect.unit ![616, 0] ![88, 1280] inb_S1408x1280_S88x1280_616_0, k0_pay11 (k0_pay1 x1) (k0_pay2 x0)⟩, ⟨Rect.unit ![528, 0] ![88, 1280] inb_S1408x1280_S88x1280_528_0, k0_pay10 (k0_pay1 x1) (k0_pay2 x0)⟩, ⟨Rect.unit ![440, 0] ![88, 1280] inb_S1408x1280_S88x1280_440_0, k0_pay9 (k0_pay1 x1) (k0_pay2 x0)⟩, ⟨Rect.unit ![352, 0] ![88, 1280] inb_S1408x1280_S88x1280_352_0, k0_pay8 (k0_pay7 x1 x0)⟩, ⟨Rect.unit ![264, 0] ![88, 1280] inb_S1408x1280_S88x1280_264_0, k0_pay6 x1 x0⟩, ⟨Rect.unit ![176, 0] ![88, 1280] inb_S1408x1280_S88x1280_176_0, k0_pay5 x1 x0⟩, ⟨Rect.unit ![88, 0] ![88, 1280] inb_S1408x1280_S88x1280_88_0, k0_pay4 x1 x0⟩, ⟨Rect.unit ![0, 0] ![88, 1280] inb_S1408x1280_S88x1280_0_0, k0_pay3 x1 x0⟩] (Rect.unit ![0, 0] ![1408, 1280] inb_S1408x1280_S1408x1280_0_0).toLoadRect = mixRows x0 x1 := by
  rw [View.readCov_eq_canon']
  funext j
  have hj : (Rect.unit ![0, 0] ![1408, 1280] inb_S1408x1280_S1408x1280_0_0).toLoadRect.idx j = j := by
    funext a; apply Fin.ext; fin_cases a <;> simp [LoadRect.idx] <;> rfl
  rw [hj]
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, mixRows]
  all_goals
    refine Finset.sum_congr rfl fun n _ => ?_
    refine congrArg₂ (fun a b : EReal => a * b) (congrArg x1 ?_) (congrArg x0 ?_)
    · funext a; apply Fin.ext; fin_cases a
      · show (x 0).val = (j 0).val % 88; omega
      · rfl
    · funext a; apply Fin.ext; fin_cases a
      · first
          | (show _ = (j 0).val / 88; omega)
          | (show (_ : ℕ) = (j 0).val / 88; simp; omega)
      · rfl
      · show (x 1).val = (j 1).val; omega

/-- The block one grid point stores: the pooled layer of the state after twenty steps. -/
theorem out_eq (c : Dev nD) (i : grid0.Coords) (arg1 : Memref sig .tc .vmem S16x83x1280 .bf16) (harg1 : arg1.IsWhole) (arg2 : Memref sig .tc .vmem S88x83 .bf16) (harg2 : arg2.IsWhole) (arg3 : Memref sig .tc .vmem S128x384 .bf16) (harg3 : arg3.IsWhole) (arg4 : Memref sig .tc .vmem S128x384 .bf16) (harg4 : arg4.IsWhole) (arg5 : Memref sig .tc .vmem S1x384 .f32) (harg5 : arg5.IsWhole) (arg6 : Memref sig .tc .vmem S128x256 .bf16) (harg6 : arg6.IsWhole) (arg7 : Memref sig .tc .vmem S128x128 .bf16) (harg7 : arg7.IsWhole) (arg8 : Memref sig .tc .vmem S128x40 .f32) (harg8 : arg8.IsWhole) (arg9 : Memref sig .tc .vmem S1x40 .f32) (harg9 : arg9.IsWhole) (arg10 : Memref sig .tc .vmem S1x16x40 .f32) (harg10 : arg10.IsWhole) (arg11 : Memref sig .tc .vmem S1408x1280 .bf16) (harg11 : arg11.IsWhole)
    (x0 : Vec Ideal S16x83x1280 .bf16) (x1 : Vec Ideal S88x83 .bf16) (x2 : Vec Ideal S128x384 .bf16) (x3 : Vec Ideal S128x384 .bf16) (x4 : Vec Ideal S1x384 .f32) (x5 : Vec Ideal S128x256 .bf16) (x6 : Vec Ideal S128x128 .bf16) (x7 : Vec Ideal S128x40 .f32) (x8 : Vec Ideal S1x40 .f32)
    :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 = pooled (hid (mixRows x0 x1) (k0_pay21 x2) (k0_pay22 x3) (k0_pay23 x4) (k0_pay24 x5) (k0_pay25 x6) 20) x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread,
    View.ld_unit_zero (S := S16x83x1280) hz3, View.ld_unit_zero (S := S88x83) hz2, View.ld_unit_zero (S := S128x384) hz2, View.ld_unit_zero (S := S1x384) hz2, View.ld_unit_zero (S := S128x256) hz2, View.ld_unit_zero (S := S128x128) hz2, View.ld_unit_zero (S := S128x40) hz2, View.ld_unit_zero (S := S1x40) hz2]
  simp only [mix_eq]
  simp only [pay27_eq (mixRows x0 x1) (k0_pay22 x3), pay29_eq (mixRows x0 x1) (k0_pay22 x3) (k0_pay25 x6), pay30_eq (mixRows x0 x1) (k0_pay22 x3) (k0_pay25 x6), pay26_eq (mixRows x0 x1) (k0_pay21 x2) (k0_pay22 x3) (k0_pay23 x4) (k0_pay24 x5) (k0_pay25 x6)]
  simp only [pay35_eq, pay36_eq, pay37_eq, pay38_eq (mixRows x0 x1) (k0_pay21 x2) (k0_pay22 x3) (k0_pay23 x4), pay39_eq, pay40_eq, pay41_eq, pay42_eq (mixRows x0 x1) (k0_pay21 x2) (k0_pay22 x3) (k0_pay23 x4), pay44_eq, pay45_eq, pay50_eq, pay51_eq, pay52_eq, pay53_eq (mixRows x0 x1) (k0_pay21 x2) (k0_pay22 x3) (k0_pay23 x4), pay54_eq, pay55_eq, pay56_eq, pay57_eq (mixRows x0 x1) (k0_pay21 x2) (k0_pay22 x3) (k0_pay23 x4), pay59_eq, pay60_eq, pay65_eq, pay66_eq, pay67_eq, pay68_eq (mixRows x0 x1) (k0_pay21 x2) (k0_pay22 x3) (k0_pay23 x4), pay69_eq, pay70_eq, pay71_eq, pay72_eq (mixRows x0 x1) (k0_pay21 x2) (k0_pay22 x3) (k0_pay23 x4), pay74_eq, pay75_eq, pay80_eq, pay81_eq, pay82_eq, pay83_eq (mixRows x0 x1) (k0_pay21 x2) (k0_pay22 x3) (k0_pay23 x4), pay84_eq, pay85_eq, pay86_eq, pay87_eq (mixRows x0 x1) (k0_pay21 x2) (k0_pay22 x3) (k0_pay23 x4), pay89_eq, pay90_eq, pay95_eq, pay96_eq, pay97_eq, pay98_eq (mixRows x0 x1) (k0_pay21 x2) (k0_pay22 x3) (k0_pay23 x4), pay99_eq, pay100_eq, pay101_eq]

end Cert.KernelIdeal.Tgcn

end
-- ==== Proof.Array.lean ====
/- The pooled array the region leaves, as one function of the arrays it reads. -/
module

public import proofs.«01_k».proof.Proof.Region

@[expose] public section

set_option maxRecDepth 16384

noncomputable section

namespace Cert.KernelIdeal.Tgcn

open Idealize.ShloMosaic Idealize.ShloMosaic.TcCoe Idealize.SL.Sem Cert.KernelIdeal Cert.KernelIdeal.Gen
open Idealize.ShloMosaic.Pipeline (Dat)

/-- Every window's block index at a grid point. -/
theorem idx : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0, 0] ∧ t.val < 4 :=
  (by decide +kernel : ∀ t : Fin grid0.N, _)

variable (m : (ℓ : Loc nD τ sig) → Buf (Elt Ideal) ℓ)

/-- The sixteen batch groups of grid point `p`. -/
def groups (X : Vec Ideal S64x83x1280 .bf16) (p : Fin 4) : Vec Ideal S16x83x1280 .bf16 :=
  fun y => X (ix3 (⟨p.val * 16 + (y 0).val, by have h : (y 0).val < 16 := (y 0).isLt; omega⟩ : Fin 64) (⟨(y 1).val, (y 1).isLt⟩ : Fin 83) (⟨(y 2).val, (y 2).isLt⟩ : Fin 1280))

/-- The final state over one grid point's rows. -/
def state (X : Vec Ideal S64x83x1280 .bf16) (M : Vec Ideal S88x83 .bf16) (A0 A1 : Vec Ideal S128x384 .bf16) (c3 : Vec Ideal S1x384 .f32) (U : Vec Ideal S128x256 .bf16)
    (Uh : Vec Ideal S128x128 .bf16) (p : Fin 4) (k : ℕ) : FVec Ideal S1408x128 .f32 :=
  hid (F := Ideal) (mixRows (groups X p) M) (k0_pay21 A0) (k0_pay22 A1) (k0_pay23 c3) (k0_pay24 U) (k0_pay25 Uh) k

/-- The region's result from the arrays its windows read. -/
def result (X : Vec Ideal S64x83x1280 .bf16) (M : Vec Ideal S88x83 .bf16) (A0 A1 : Vec Ideal S128x384 .bf16) (c3 : Vec Ideal S1x384 .f32) (U : Vec Ideal S128x256 .bf16)
    (Uh : Vec Ideal S128x128 .bf16) (L : Vec Ideal S128x40 .f32) (b : Vec Ideal S1x40 .f32) : Vec Ideal S4x16x40 .f32 :=
  fun y => pooled (F := Ideal) (state X M A0 A1 c3 U Uh (⟨(y 0).val, (y 0).isLt⟩ : Fin 4) 20) L b (ix3 (0 : Fin 1) (⟨(y 1).val, (y 1).isLt⟩ : Fin 16) (⟨(y 2).val, (y 2).isLt⟩ : Fin 40))

/-- Window 0's block is the grid point's batch groups of the input array. -/
theorem iblk0 (c : Dev nD) (t : Fin cfg0.N) : iblk m c 0 t = groups (V m c main_v220) ⟨t.val, (idx t).2.2.2.2.2.2.2.2.2.2⟩ := by
  funext y
  obtain ⟨h0, -⟩ := idx t
  blk_simp [iblk, groups, h0]
  blk_ext [h0]

/-- Window 1's block is the node-mixing matrix. -/
theorem iblk1 (c : Dev nD) (t : Fin cfg0.N) : iblk m c 1 t = V m c main_v55 := by
  funext y
  have h := (idx t).2.1
  blk_simp [iblk, h]
  blk_ext [h]

/-- Window 2's block is the convolution weights placed for the first of two interleaved steps. -/
theorem iblk2 (c : Dev nD) (t : Fin cfg0.N) : iblk m c 2 t = V m c main_v116 := by
  funext y
  have h := (idx t).2.2.1
  blk_simp [iblk, h]
  blk_ext [h]

/-- Window 3's block is the convolution weights placed for the second of two interleaved steps. -/
theorem iblk3 (c : Dev nD) (t : Fin cfg0.N) : iblk m c 3 t = V m c main_v118 := by
  funext y
  have h := (idx t).2.2.2.1
  blk_simp [iblk, h]
  blk_ext [h]

/-- Window 4's block is the gate biases. -/
theorem iblk4 (c : Dev nD) (t : Fin cfg0.N) : iblk m c 4 t = V m c main_v138 := by
  funext y
  have h := (idx t).2.2.2.2.1
  blk_simp [iblk, h]
  blk_ext [h]

/-- Window 5's block is the update and reset gates' state weights. -/
theorem iblk5 (c : Dev nD) (t : Fin cfg0.N) : iblk m c 5 t = V m c main_v176 := by
  funext y
  have h := (idx t).2.2.2.2.2.1
  blk_simp [iblk, h]
  blk_ext [h]

/-- Window 6's block is the candidate's state weights. -/
theorem iblk6 (c : Dev nD) (t : Fin cfg0.N) : iblk m c 6 t = V m c main_v195 := by
  funext y
  have h := (idx t).2.2.2.2.2.2.1
  blk_simp [iblk, h]
  blk_ext [h]

/-- Window 7's block is the output layer's weights. -/
theorem iblk7 (c : Dev nD) (t : Fin cfg0.N) : iblk m c 7 t = V m c main_v212 := by
  funext y
  have h := (idx t).2.2.2.2.2.2.2.1
  blk_simp [iblk, h]
  blk_ext [h]

/-- Window 8's block is the output layer's bias. -/
theorem iblk8 (c : Dev nD) (t : Fin cfg0.N) : iblk m c 8 t = V m c main_v216 := by
  funext y
  have h := (idx t).2.2.2.2.2.2.2.2.1
  blk_simp [iblk, h]
  blk_ext [h]

/-- The region leaves its result array as a function of the arrays it reads. -/
theorem final (c : Dev nD) : (dats m 0 c).arrAt 9 cfg0.N
    = result (V m c main_v220) (V m c main_v55) (V m c main_v116) (V m c main_v118) (V m c main_v138) (V m c main_v176) (V m c main_v195) (V m c main_v212) (V m c main_v216) := by
  refine (dats m 0 c).arrAt_eq_of_covers 9 _ (by decide +kernel) fun t _ y => ?_
  blk_simp
  rw [after0_9]
  unfold outsAt0
  rw [out_eq, iblk0, iblk1, iblk2, iblk3, iblk4, iblk5, iblk6, iblk7, iblk8]
  obtain ⟨-, -, -, -, -, -, -, -, -, h9, h4⟩ := idx t
  generalize hV : V m c = W
  have e : ∀ a : Fin 3, (((win0_9.blk t).view.emb y) a : ℕ) = ![t.val + (y 0).val, (y 1).val, (y 2).val] a := by
    intro a
    fin_cases a
    · blk_simp [h9]
    · blk_simp [h9]; rfl
    · blk_simp [h9]; rfl
  have y0 : (y 0).val = 0 := by have h : (y 0).val < 1 := (y 0).isLt; omega
  refine congrArg₂ (fun (p : Fin 4) (z : S1x16x40.Idx) => pooled (F := Ideal) (state (W main_v220) (W main_v55) (W main_v116) (W main_v118) (W main_v138) (W main_v176) (W main_v195) p 20)
    (W main_v212) (W main_v216) z) (Fin.ext ?_) (funext fun a => Fin.ext ?_)
  · show t.val = _
    rw [e 0, y0]; rfl
  · fin_cases a
    · exact y0
    · exact (e 1).symm
    · exact (e 2).symm

end Cert.KernelIdeal.Tgcn

end
-- ==== Proof.HostTerms.lean ====
/- The arrays the region reads, as terms over the arguments: the mixing matrix, the folded weights and biases laid out block-diagonally, the observations
   regrouped. -/
module

public import proofs.«01_k».proof.Proof.Array
public import Idealize.ShloMosaic.Lib.StableHlo.RunRead

@[expose] public section

set_option maxRecDepth 16384

noncomputable section

namespace Cert.KernelIdeal.Tgcn

open Idealize.ShloMosaic Idealize.ShloMosaic.TcCoe Idealize.SL.Sem Cert.KernelIdeal Cert.KernelIdeal.Gen
open Idealize.ShloMosaic.Pipeline (Dat)

/-- A vector of one word. -/
def vec1 (k : BitVec 32) : IVec S1 32 := broadcastInDim S1 ![] bcast_S_S1 (constantI S_ 32 k)

/-- A pair of offsets. -/
def at2 (a b : BitVec 32) : IVec S2 32 := concatenate S2 0 [⟨S1, vec1 a⟩, ⟨S1, vec1 b⟩] concatenates_S1_S1_S2_d0

/-- A `16 × 32` block written at an offset. -/
def put16 (x : FVec Ideal S64x128 .f32) (a b : BitVec 32) (w : FVec Ideal S16x32 .f32) : FVec Ideal S64x128 .f32 :=
  Host.scatter scatter_S64x128_S2_S16x32_01_n_01_0 (fun _ b => b) x (at2 a b) w

/-- Four copies of a `16 × 32` block down the diagonal. -/
def diag16 (w : FVec Ideal S16x32 .f32) : FVec Ideal S64x128 .f32 :=
  put16 (put16 (put16 (put16 (broadcastInDim S64x128 ![] bcast_S_S64x128 (constant (F := Ideal) S_ .f32 0x00000000#32)) 0#32 0#32 w) 16#32 32#32 w) 32#32 64#32 w) 48#32 96#32 w

/-- A `32 × 32` block written at an offset. -/
def put32 (x : FVec Ideal S128x128 .f32) (a b : BitVec 32) (w : FVec Ideal S32x32 .f32) : FVec Ideal S128x128 .f32 :=
  Host.scatter scatter_S128x128_S2_S32x32_01_n_01_0 (fun _ b => b) x (at2 a b) w

/-- Four copies of a `32 × 32` block down the diagonal. -/
def diag32 (w : FVec Ideal S32x32 .f32) : FVec Ideal S128x128 .f32 :=
  put32 (put32 (put32 (put32 (broadcastInDim S128x128 ![] bcast_S_S128x128 (constant (F := Ideal) S_ .f32 0x00000000#32)) 0#32 0#32 w) 32#32 32#32 w) 64#32 64#32 w) 96#32 96#32 w

/-- A `32 × 10` block written at an offset. -/
def put10 (x : FVec Ideal S128x40 .f32) (a b : BitVec 32) (w : FVec Ideal S32x10 .f32) : FVec Ideal S128x40 .f32 :=
  Host.scatter scatter_S128x40_S2_S32x10_01_n_01_0 (fun _ b => b) x (at2 a b) w

/-- Four copies of a `32 × 10` block down the diagonal. -/
def diag10 (w : FVec Ideal S32x10 .f32) : FVec Ideal S128x40 .f32 :=
  put10 (put10 (put10 (put10 (broadcastInDim S128x40 ![] bcast_S_S128x40 (constant (F := Ideal) S_ .f32 0x00000000#32)) 0#32 0#32 w) 32#32 10#32 w) 64#32 20#32 w) 96#32 30#32 w

/-- The rows of a gate's weights that meet the convolution. -/
def top (L : FVec Ideal S64x32 .f32) : FVec Ideal S32x32 .f32 := extractStridedSlice S32x32 ![0, 0] L slices_S64x32_S32x32_0_0

/-- The rows of a gate's weights that meet the state. -/
def bot (L : FVec Ideal S64x32 .f32) : FVec Ideal S32x32 .f32 := extractStridedSlice S32x32 ![32, 0] L slices_S64x32_S32x32_32_0

/-- A convolution's weights folded into the gate's. -/
def foldW (W : FVec Ideal S16x32 .f32) (L : FVec Ideal S64x32 .f32) : FVec Ideal S16x32 .f32 :=
  Host.dotGeneral dot_S16x32_S32x32_S16x32_1_0_0_1_n_n none W (top L)

/-- A convolution's bias folded into the gate's. -/
def foldB (b : FVec Ideal S32 .f32) (L : FVec Ideal S64x32 .f32) (Lb : FVec Ideal S32 .f32) : FVec Ideal S32 .f32 :=
  addf (Host.dotGeneral dot_S32_S32x32_S32_0_0_n_1_n_n none b (top L)) Lb

/-- Four copies of a bias in a row. -/
def tile4 (b : FVec Ideal S32 .f32) : FVec Ideal S128 .f32 :=
  shapeCast S128 (broadcastInDim S4x32 ![0, 1] bcast_S1x32_S4x32_0_1 (shapeCast S1x32 b shapeCasts_S32_S1x32)) shapeCasts_S4x32_S128

/-- The three gates' folded weights side by side. -/
def gates3 (a b c : FVec Ideal S16x32 .f32) : FVec Ideal S64x384 .f32 :=
  concatenate S64x384 1 [⟨S64x128, diag16 a⟩, ⟨S64x128, diag16 b⟩, ⟨S64x128, diag16 c⟩] concatenates_S64x128_S64x128_S64x128_S64x384_d1

/-- No weights. -/
def zero3 : FVec Ideal S64x384 .f32 := broadcastInDim S64x384 ![] bcast_S_S64x384 (constant (F := Ideal) S_ .f32 0x00000000#32)

/-- The weights an even step's columns meet. -/
def evenW (a b c : FVec Ideal S16x32 .f32) : FVec Ideal S128x384 .bf16 :=
  truncf .bf16 (concatenate S128x384 0 [⟨S64x384, gates3 a b c⟩, ⟨S64x384, zero3⟩] concatenates_S64x384_S64x384_S128x384_d0) bitsLt_bf16_f32

/-- The weights an odd step's columns meet. -/
def oddW (a b c : FVec Ideal S16x32 .f32) : FVec Ideal S128x384 .bf16 :=
  truncf .bf16 (concatenate S128x384 0 [⟨S64x384, zero3⟩, ⟨S64x384, gates3 a b c⟩] concatenates_S64x384_S64x384_S128x384_d0) bitsLt_bf16_f32

/-- The three gates' folded biases side by side. -/
def bias3 (a b c : FVec Ideal S32 .f32) : FVec Ideal S1x384 .f32 :=
  broadcastInDim S1x384 ![1] bcast_S384_S1x384_1 (concatenate S384 0 [⟨S128, tile4 a⟩, ⟨S128, tile4 b⟩, ⟨S128, tile4 c⟩] concatenates_S128_S128_S128_S384_d0)

/-- The update and reset gates' state weights side by side. -/
def stateW (a b : FVec Ideal S32x32 .f32) : FVec Ideal S128x256 .bf16 :=
  truncf .bf16 (concatenate S128x256 1 [⟨S128x128, diag32 a⟩, ⟨S128x128, diag32 b⟩] concatenates_S128x128_S128x128_S128x256_d1) bitsLt_bf16_f32

/-- The candidate's state weights. -/
def candW (a : FVec Ideal S32x32 .f32) : FVec Ideal S128x128 .bf16 := truncf .bf16 (diag32 a) bitsLt_bf16_f32

/-- Four copies of the last layer's bias in a row. -/
def lastB (b : FVec Ideal S10 .f32) : FVec Ideal S1x40 .f32 :=
  broadcastInDim S1x40 ![1] bcast_S40_S1x40_1 (shapeCast S40 (broadcastInDim S4x10 ![0, 1] bcast_S1x10_S4x10_0_1 (shapeCast S1x10 b shapeCasts_S10_S1x10)) shapeCasts_S4x10_S40)

/-- The observations regrouped: four batch members side by side in the columns. -/
def regroup (x : FVec Ideal S256x20x83x16 .f32) : FVec Ideal S64x83x1280 .bf16 :=
  truncf .bf16 (shapeCast S64x83x1280 (transpose S64x83x20x4x16 [0, 3, 2, 1, 4] (shapeCast S64x4x20x83x16 x shapeCasts_S256x20x83x16_S64x4x20x83x16)
    transposes_S64x4x20x83x16_S64x83x20x4x16_0_3_2_1_4) shapeCasts_S64x83x20x4x16_S64x83x1280) bitsLt_bf16_f32

/-- The edges' sources, then every node. -/
def rowIx (E : IVec S2x3403 32) : IVec S3486 32 :=
  concatenate S3486 0 [⟨S3403, shapeCast S3403 (extractStridedSlice S1x3403 ![0, 0] E slices_S2x3403_S1x3403_0_0) shapeCasts_S1x3403_S3403⟩, ⟨S83, iotaInDim S83 32 0⟩]
    concatenates_S3403_S83_S3486_d0

/-- The edges' targets, then every node. -/
def colIx (E : IVec S2x3403 32) : IVec S3486 32 :=
  concatenate S3486 0 [⟨S3403, shapeCast S3403 (extractStridedSlice S1x3403 ![1, 0] E slices_S2x3403_S1x3403_1_0) shapeCasts_S1x3403_S3403⟩, ⟨S83, iotaInDim S83 32 0⟩]
    concatenates_S3403_S83_S3486_d0

/-- A node's number counted from the end when negative. -/
def wrapIx (j : IVec S3486 32) : IVec S3486 32 :=
  select (cmpi .slt j (broadcastInDim S3486 ![] bcast_S_S3486 (constantI S_ 32 0#32))) (addi j (broadcastInDim S3486 ![] bcast_S_S3486 (constantI S_ 32 83#32))) j

/-- Node numbers as a column. -/
def colVec (j : IVec S3486 32) : IVec S3486x1 32 := broadcastInDim S3486x1 ![0] bcast_S3486_S3486x1_0 j

/-- The degrees. -/
def degs (E : IVec S2x3403 32) : FVec Ideal S83 .f32 :=
  Host.scatterAdd scatter_S83_S3486x1_S3486_n_0_0_1 (broadcastInDim S83 ![] bcast_S_S83 (constant (F := Ideal) S_ .f32 0x00000000#32)) (colVec (wrapIx (colIx E)))
    (broadcastInDim S3486 ![] bcast_S_S3486 (constant (F := Ideal) S_ .f32 0x3F800000#32))

/-- One over the square root of the degrees, zero at no degree. -/
def dinv (E : IVec S2x3403 32) : FVec Ideal S83 .f32 :=
  select (cmpf .ogt (degs E) (broadcastInDim S83 ![] bcast_S_S83 (constant (F := Ideal) S_ .f32 0x00000000#32)))
    (Host.divf (broadcastInDim S83 ![] bcast_S_S83 (constant (F := Ideal) S_ .f32 0x3F800000#32)) (Host.sqrt (degs E)))
    (broadcastInDim S83 ![] bcast_S_S83 (constant (F := Ideal) S_ .f32 0x00000000#32))

/-- Every edge's weight. -/
def norms (E : IVec S2x3403 32) : FVec Ideal S3486 .f32 :=
  mulf (Host.gather gather_S83_S3486x1_S3486_n_0_n_n_0_1_1 (dinv E) (colVec (wrapIx (rowIx E))))
    (Host.gather gather_S83_S3486x1_S3486_n_0_n_n_0_1_1 (dinv E) (colVec (wrapIx (colIx E))))

/-- The mixing matrix: target by source, the edges' weights added up. -/
def mixing (E : IVec S2x3403 32) : FVec Ideal S83x83 .f32 :=
  Host.scatterAdd scatter_S83x83_S3486x2_S3486_n_01_01_1 (broadcastInDim S83x83 ![] bcast_S_S83x83 (constant (F := Ideal) S_ .f32 0x00000000#32))
    (concatenate S3486x2 1 [⟨S3486x1, colVec (wrapIx (colIx E))⟩, ⟨S3486x1, colVec (wrapIx (rowIx E))⟩] concatenates_S3486x1_S3486x1_S3486x2_d1) (norms E)

/-- The mixing matrix with five rows of zeros below. -/
def mixPad (E : IVec S2x3403 32) : FVec Ideal S88x83 .bf16 :=
  truncf .bf16 (Host.scatter scatter_S88x83_S1_S83x83_01_n_0_0 (fun _ b => b) (broadcastInDim S88x83 ![] bcast_S_S88x83 (constant (F := Ideal) S_ .f32 0x00000000#32)) (vec1 0#32) (mixing E))
    bitsLt_bf16_f32

variable (m : (ℓ : Loc nD τ sig) → Buf (Elt Ideal) ℓ)

/-- The region reads the observations regrouped. -/
theorem at_v220 (c : Dev nD) : V m c main_v220 = regroup (m ((c : Thread nD τ).loc main_arg0)) := by entry_read; rfl
/-- The region reads the last bias four times over. -/
theorem at_v216 (c : Dev nD) : V m c main_v216 = lastB (m ((c : Thread nD τ).loc main_arg19)) := by entry_read; rfl
set_option maxHeartbeats 1600000 in
/-- The region reads the last layer's weights down a diagonal. -/
theorem at_v212 (c : Dev nD) : V m c main_v212 = diag10 (m ((c : Thread nD τ).loc main_arg18)) := by
  unfold V
  after_reads_simp
  rfl

set_option maxHeartbeats 1600000 in
/-- The region reads the candidate's state weights down a diagonal. -/
theorem at_v195 (c : Dev nD) : V m c main_v195 = candW (bot (m ((c : Thread nD τ).loc main_arg16))) := by
  unfold V
  after_reads_simp
  rfl

set_option maxHeartbeats 1600000 in
/-- The region reads the two gates' state weights down diagonals. -/
theorem at_v176 (c : Dev nD) : V m c main_v176 = stateW (bot (m ((c : Thread nD τ).loc main_arg12))) (bot (m ((c : Thread nD τ).loc main_arg14))) := by
  unfold V
  after_reads_simp [StableHlo.readPieces]
  rfl

/-- The region reads the folded biases. -/
theorem at_v138 (c : Dev nD) : V m c main_v138 = bias3 (foldB (m ((c : Thread nD τ).loc main_arg7)) (m ((c : Thread nD τ).loc main_arg12)) (m ((c : Thread nD τ).loc main_arg13)))
    (foldB (m ((c : Thread nD τ).loc main_arg9)) (m ((c : Thread nD τ).loc main_arg14)) (m ((c : Thread nD τ).loc main_arg15)))
    (foldB (m ((c : Thread nD τ).loc main_arg11)) (m ((c : Thread nD τ).loc main_arg16)) (m ((c : Thread nD τ).loc main_arg17))) := by entry_read; rfl
set_option maxHeartbeats 1600000 in
/-- The region reads the padded mixing matrix. -/
theorem at_v55 (c : Dev nD) : V m c main_v55 = mixPad (m ((c : Thread nD τ).loc main_arg5)) := by
  unfold V
  after_reads_simp [StableHlo.readPieces]
  rfl

set_option maxHeartbeats 1600000 in
/-- The region reads the folded weights for the even steps. -/
theorem at_v116 (c : Dev nD) : V m c main_v116 = evenW (foldW (m ((c : Thread nD τ).loc main_arg6)) (m ((c : Thread nD τ).loc main_arg12)))
    (foldW (m ((c : Thread nD τ).loc main_arg8)) (m ((c : Thread nD τ).loc main_arg14))) (foldW (m ((c : Thread nD τ).loc main_arg10)) (m ((c : Thread nD τ).loc main_arg16))) := by
  unfold V
  after_reads_simp [StableHlo.readPieces]
  dsimp only [Matrix.cons_val]
  after_reads_simp [StableHlo.readPieces]
  rfl

set_option maxHeartbeats 1600000 in
/-- The region reads the folded weights for the odd steps. -/
theorem at_v118 (c : Dev nD) : V m c main_v118 = oddW (foldW (m ((c : Thread nD τ).loc main_arg6)) (m ((c : Thread nD τ).loc main_arg12)))
    (foldW (m ((c : Thread nD τ).loc main_arg8)) (m ((c : Thread nD τ).loc main_arg14))) (foldW (m ((c : Thread nD τ).loc main_arg10)) (m ((c : Thread nD τ).loc main_arg16))) := by
  unfold V
  after_reads_simp [StableHlo.readPieces]
  dsimp only [Matrix.cons_val]
  after_reads_simp [StableHlo.readPieces]
  rfl

end Cert.KernelIdeal.Tgcn

end
-- ==== Proof.RefOps.lean ====
/- The reference's operations read at an index: a gather of node rows, a scatter-add of edge rows, one gate of a step. -/
module

public import proofs.«01_k».proof.Proof.HostTerms
public import proofs.«01_k».proof.Proof.Gen.ReferenceIdeal.StepRun
public import Idealize.ShloMosaic.Lib.Routing.OpsSet

@[expose] public section

set_option maxRecDepth 16384

noncomputable section

namespace Cert.ReferenceIdeal.Tgcn

open Idealize.ShloMosaic Idealize.ShloMosaic.TcCoe Idealize.SL.Sem Cert.ReferenceIdeal Cert.ReferenceIdeal.Gen
open Finset (univ)

/-- Where an edge's row of updates lands: its batch member and feature, at the node its word names. -/
theorem rows_land (idx : IVec S3486x1 32) (b b' : Fin 256) (e : Fin 3486) (h h' : Fin 32) (n : Fin 83) :
    scatter_S256x83x32_S3486x1_S256x3486x32_02_1_1_1.resultIdx? (ix3 b e h) idx = some (ix3 b' n h')
      ↔ b = b' ∧ (idx (ix2 e 0)).toInt = (n.val : Int) ∧ h = h' := by
  rw [Routing.resultIdx?_eq_some]
  have w0 : scatter_S256x83x32_S3486x1_S256x3486x32_02_1_1_1.window (ix3 b e h) 0 = b.val := rfl
  have w1 : scatter_S256x83x32_S3486x1_S256x3486x32_02_1_1_1.window (ix3 b e h) 1 = 0 := rfl
  have w2 : scatter_S256x83x32_S3486x1_S256x3486x32_02_1_1_1.window (ix3 b e h) 2 = h.val := rfl
  have s0 : scatter_S256x83x32_S3486x1_S256x3486x32_02_1_1_1.start (ix3 b e h) idx 0 = 0 := rfl
  have s2 : scatter_S256x83x32_S3486x1_S256x3486x32_02_1_1_1.start (ix3 b e h) idx 2 = 0 := rfl
  have s1 : scatter_S256x83x32_S3486x1_S256x3486x32_02_1_1_1.start (ix3 b e h) idx 1 = (idx (ix2 e 0)).toInt := by
    show (idx _).toInt = _
    congr 2
    funext a
    match a with
    | ⟨0, _⟩ => rfl
    | ⟨1, _⟩ => rfl
  constructor
  · intro H
    have h0 := H 0; have h1 := H 1; have h2 := H 2
    rw [w0, s0] at h0; rw [w1, s1] at h1; rw [w2, s2] at h2
    have e0 : ((ix3 b' n h' : S256x83x32.Idx) 0).val = b'.val := rfl
    have e1 : ((ix3 b' n h' : S256x83x32.Idx) 1).val = n.val := rfl
    have e2 : ((ix3 b' n h' : S256x83x32.Idx) 2).val = h'.val := rfl
    rw [e0] at h0; rw [e1] at h1; rw [e2] at h2
    exact ⟨Fin.ext (by omega), by omega, Fin.ext (by omega)⟩
  · rintro ⟨rfl, hn, rfl⟩ a
    match a with
    | ⟨0, _⟩ => exact (congrArg₂ (· + ·) s0 (congrArg Int.ofNat w0)).trans (by simp)
    | ⟨1, _⟩ => exact (congrArg₂ (· + ·) s1 (congrArg Int.ofNat w1)).trans (by simpa using hn)
    | ⟨2, _⟩ => exact (congrArg₂ (· + ·) s2 (congrArg Int.ofNat w2)).trans (by simp)

/-- A gather of node rows at an index. -/
theorem rows_at (x : FVec Ideal S256x83x32 .f32) (idx : IVec S3486x1 32) (b : Fin 256) (e : Fin 3486) (h : Fin 32) (n : Fin 83)
    (hn : idx (ix2 e 0) = BitVec.ofNat 32 n.val) :
    Host.gather gather_S256x83x32_S3486x1_S256x3486x32_02_1_n_n_1_1_256132 x idx (ix3 b e h) = x (ix3 b n h) := by
  show x _ = x _
  congr 1
  funext a
  apply Fin.ext
  match a with
  | ⟨0, _⟩ => exact (Nat.zero_add _).trans rfl
  | ⟨1, _⟩ =>
    show min (idx _).toInt.toNat 82 + 0 + 0 = n.val
    have e1 : (gather_S256x83x32_S3486x1_S256x3486x32_02_1_n_n_1_1_256132.siIdx (ix3 b e h) ⟨0, by decide⟩) = ix2 e 0 := by
      funext a
      match a with
      | ⟨0, _⟩ => rfl
      | ⟨1, _⟩ => rfl
    have e2 : (idx (gather_S256x83x32_S3486x1_S256x3486x32_02_1_n_n_1_1_256132.siIdx (ix3 b e h) ⟨0, by decide⟩)).toInt.toNat = n.val := by
      rw [e1, hn, WordCmp.toInt_ofNat_of_lt (by omega)]; rfl
    have := n.isLt
    exact (congrArg (fun k => min k 82 + 0 + 0) e2).trans (by omega)
  | ⟨2, _⟩ => exact (Nat.zero_add _).trans rfl

/-- A scatter-add of edge rows onto nodes at an index: the rows of the edges that name the node, added to what was there. -/
theorem adds_at (x : FVec Ideal S256x83x32 .f32) (idx : IVec S3486x1 32) (u : FVec Ideal S256x3486x32 .f32) (col : Fin 3486 → Fin 83)
    (hc : ∀ e, idx (ix2 e 0) = BitVec.ofNat 32 (col e).val) (b : Fin 256) (n : Fin 83) (h : Fin 32) :
    Host.scatterAdd scatter_S256x83x32_S3486x1_S256x3486x32_02_1_1_1 x idx u (ix3 b n h)
      = (x (ix3 b n h) + ∑ e ∈ univ.filter (fun e => col e = n), (u (ix3 b e h) : EReal) : EReal) := by
  have key : ∀ (b' : Fin 256) (e : Fin 3486) (h' : Fin 32),
      scatter_S256x83x32_S3486x1_S256x3486x32_02_1_1_1.resultIdx? (ix3 b' e h') idx = some (ix3 b n h) ↔ b' = b ∧ col e = n ∧ h' = h := by
    intro b' e h'
    rw [rows_land, hc, WordCmp.toInt_ofNat_of_lt (by have := (col e).isLt; omega)]
    constructor
    · rintro ⟨p, q, r⟩; exact ⟨p, Fin.ext (by omega), r⟩
    · rintro ⟨p, q, r⟩; exact ⟨p, by rw [q], r⟩
  show (x (ix3 b n h) + ∑ j ∈ univ.filter (fun j => scatter_S256x83x32_S3486x1_S256x3486x32_02_1_1_1.resultIdx? j idx = some (ix3 b n h)), (u j : EReal) : EReal) = _
  congr 1
  refine Finset.sum_bij' (fun j _ => (j 1 : Fin 3486)) (fun e _ => (ix3 b e h : S256x3486x32.Idx)) ?_ ?_ ?_ ?_ ?_
  · intro j hj
    obtain ⟨b', e, h', rfl⟩ : ∃ (b' : Fin 256) (e : Fin 3486) (h' : Fin 32), j = ix3 b' e h' := ⟨j 0, j 1, j 2, eq_ix3 j⟩
    exact Finset.mem_filter.2 ⟨Finset.mem_univ _, ((key b' e h').1 (Finset.mem_filter.1 hj).2).2.1⟩
  · intro e he
    exact Finset.mem_filter.2 ⟨Finset.mem_univ _, (key b e h).2 ⟨rfl, (Finset.mem_filter.1 he).2, rfl⟩⟩
  · intro j hj
    obtain ⟨b', e, h', rfl⟩ : ∃ (b' : Fin 256) (e : Fin 3486) (h' : Fin 32), j = ix3 b' e h' := ⟨j 0, j 1, j 2, eq_ix3 j⟩
    obtain ⟨rfl, -, rfl⟩ := (key b' e h').1 (Finset.mem_filter.1 hj).2
    rfl
  · intro e he; rfl
  · intro j hj
    obtain ⟨b', e, h', rfl⟩ : ∃ (b' : Fin 256) (e : Fin 3486) (h' : Fin 32), j = ix3 b' e h' := ⟨j 0, j 1, j 2, eq_ix3 j⟩
    obtain ⟨rfl, -, rfl⟩ := (key b' e h').1 (Finset.mem_filter.1 hj).2
    rfl

/-- Node numbers counted from the end when negative. -/
def wrapped (j : IVec S3486 32) : IVec S3486 32 :=
  select (cmpi .slt j (broadcastInDim S3486 ![] bcast_S_S3486 (constantI S_ 32 0#32))) (addi j (broadcastInDim S3486 ![] bcast_S_S3486 (constantI S_ 32 83#32))) j

/-- Node numbers as a column. -/
def column (j : IVec S3486 32) : IVec S3486x1 32 := broadcastInDim S3486x1 ![0] bcast_S3486_S3486x1_0 j

/-- A node's number that is in range stays as it is. -/
theorem column_at (j : IVec S3486 32) (e : Fin 3486) (n : Fin 83) (h : j (ix1 e) = BitVec.ofNat 32 n.val) :
    column (wrapped j) (ix2 e 0) = BitVec.ofNat 32 n.val := by
  have e0 : column (wrapped j) (ix2 e 0) = Scalar.select (IntOp.cmpi .slt (j (ix1 e)) 0#32) (IntOp.addi (j (ix1 e)) 83#32) (j (ix1 e)) := by
    pointwise [column, wrapped]
  rw [e0, h]
  exact Routing.wrap_of_lt _ _ (by rw [WordCmp.toNat_ofNat_of_lt (by have := n.isLt; omega)]; have := n.isLt; omega)

/-- One graph convolution. -/
def conv (x : FVec Ideal S256x83x16 .f32) (W : FVec Ideal S16x32 .f32) (row col : IVec S3486 32) (nm : FVec Ideal S3486 .f32) (b : FVec Ideal S32 .f32) :
    FVec Ideal S256x83x32 .f32 :=
  addf (Host.scatterAdd scatter_S256x83x32_S3486x1_S256x3486x32_02_1_1_1
      (broadcastInDim S256x83x32 ![] bcast_S_S256x83x32 (constant (F := Ideal) S_ .f32 0x00000000#32)) (column (wrapped col))
      (mulf (Host.gather gather_S256x83x32_S3486x1_S256x3486x32_02_1_n_n_1_1_256132
          (Host.dotGeneral dot_S256x83x16_S16x32_S256x83x32_2_0_01_1_n_n none x W) (column (wrapped row)))
        (broadcastInDim S256x3486x32 ![0, 1, 2] bcast_S1x3486x1_S256x3486x32_0_1_2 (broadcastInDim S1x3486x1 ![1] bcast_S3486_S1x3486x1_1 nm))))
    (broadcastInDim S256x83x32 ![0, 1, 2] bcast_S1x1x32_S256x83x32_0_1_2 (broadcastInDim S1x1x32 ![2] bcast_S32_S1x1x32_2 b))

/-- One gate before its nonlinearity. -/
def gate (g s : FVec Ideal S256x83x32 .f32) (L : FVec Ideal S64x32 .f32) (Lb : FVec Ideal S32 .f32) : FVec Ideal S256x83x32 .f32 :=
  addf (Host.dotGeneral dot_S256x83x64_S64x32_S256x83x32_2_0_01_1_n_n none
      (concatenate S256x83x64 2 [⟨S256x83x32, g⟩, ⟨S256x83x32, s⟩] concatenates_S256x83x32_S256x83x32_S256x83x64_d2) L)
    (broadcastInDim S256x83x32 ![0, 1, 2] bcast_S1x1x32_S256x83x32_0_1_2 (broadcastInDim S1x1x32 ![2] bcast_S32_S1x1x32_2 Lb))

/-- A vector of ones. -/
def ones : FVec Ideal S256x83x32 .f32 := broadcastInDim S256x83x32 ![] bcast_S_S256x83x32 (constant (F := Ideal) S_ .f32 0x3F800000#32)

/-- One over one plus the exponential of the negated argument. -/
def sigm (y : FVec Ideal S256x83x32 .f32) : FVec Ideal S256x83x32 .f32 := Host.divf ones (addf ones (Host.exp (Host.negf y)))

/-- The carried state and the candidate, weighted by the update gate. -/
def blend (z s t : FVec Ideal S256x83x32 .f32) : FVec Ideal S256x83x32 .f32 := addf (mulf z s) (mulf (subf ones z) t)

/-- The convolution at an index. -/
theorem conv_at (x : FVec Ideal S256x83x16 .f32) (W : FVec Ideal S16x32 .f32) (rowI colI : IVec S3486 32) (nm : FVec Ideal S3486 .f32) (b : FVec Ideal S32 .f32)
    (row col : Fin 3486 → Fin 83) (hr : ∀ e, rowI (ix1 e) = BitVec.ofNat 32 (row e).val) (hc : ∀ e, colI (ix1 e) = BitVec.ofNat 32 (col e).val)
    (p : Fin 256) (n : Fin 83) (h : Fin 32) :
    conv x W rowI colI nm b (ix3 p n h)
      = ((∑ e ∈ univ.filter (fun e => col e = n), (∑ f : Fin 16, (x (ix3 p (row e) f) : EReal) * W (ix2 f h)) * nm (ix1 e)) + b (ix1 h) : EReal) := by
  have e0 : conv x W rowI colI nm b (ix3 p n h)
      = (Host.scatterAdd scatter_S256x83x32_S3486x1_S256x3486x32_02_1_1_1
      (broadcastInDim S256x83x32 ![] bcast_S_S256x83x32 (constant (F := Ideal) S_ .f32 0x00000000#32)) (column (wrapped colI))
      (mulf (Host.gather gather_S256x83x32_S3486x1_S256x3486x32_02_1_n_n_1_1_256132
          (Host.dotGeneral dot_S256x83x16_S16x32_S256x83x32_2_0_01_1_n_n none x W) (column (wrapped rowI)))
        (broadcastInDim S256x3486x32 ![0, 1, 2] bcast_S1x3486x1_S256x3486x32_0_1_2 (broadcastInDim S1x3486x1 ![1] bcast_S3486_S1x3486x1_1 nm))) (ix3 p n h) + b (ix1 h) : EReal) := by
    pointwise [conv]
  rw [e0, adds_at _ _ _ col (fun e => column_at colI e _ (hc e))]
  congr 1
  refine Eq.trans (congrArg₂ (· + ·) (show _ = (0 : EReal) by pointwise) (Finset.sum_congr rfl fun e _ => ?_)) (zero_add _)
  refine Eq.trans (show _ = (Host.gather gather_S256x83x32_S3486x1_S256x3486x32_02_1_n_n_1_1_256132
          (Host.dotGeneral dot_S256x83x16_S16x32_S256x83x32_2_0_01_1_n_n none x W) (column (wrapped rowI)) (ix3 p e h) * nm (ix1 e) : EReal) by pointwise) ?_
  rw [rows_at _ _ _ _ _ _ (column_at rowI e _ (hr e))]
  pointwise

/-- A gate at an index. -/
theorem gate_at (g s : FVec Ideal S256x83x32 .f32) (L : FVec Ideal S64x32 .f32) (Lb : FVec Ideal S32 .f32) (p : Fin 256) (n : Fin 83) (u : Fin 32) :
    gate g s L Lb (ix3 p n u)
      = ((∑ h : Fin 32, (g (ix3 p n h) : EReal) * L (ix2 (⟨h.val, by omega⟩ : Fin 64) u)) + (∑ h : Fin 32, (s (ix3 p n h) : EReal) * L (ix2 (⟨32 + h.val, by omega⟩ : Fin 64) u))
        + Lb (ix1 u) : EReal) := by
  have e0 : gate g s L Lb (ix3 p n u) = ((∑ k : Fin 64, (if h : k.val < 32 then (g (ix3 p n (⟨k.val, h⟩ : Fin 32)) : EReal) else s (ix3 p n (⟨k.val - 32, by omega⟩ : Fin 32))) * L (ix2 k u)) + Lb (ix1 u) : EReal) := by
    pointwise [gate]
  rw [e0, Fin.sum_univ_add (a := 32) (b := 32)]
  congr 2

end Cert.ReferenceIdeal.Tgcn

end
-- ==== Proof.RefStep.lean ====
/- The reference's recurrence: its loop's state after `k` steps, and its pooled linear layer at an index. -/
module

public import proofs.«01_k».proof.Proof.RefOps

@[expose] public section

set_option maxRecDepth 16384

noncomputable section

namespace Cert.ReferenceIdeal.Tgcn

open Idealize.ShloMosaic Idealize.ShloMosaic.TcCoe Idealize.SL.Sem Cert.ReferenceIdeal Cert.ReferenceIdeal.Gen
open Finset (univ)

/-- The observations at one step. -/
def slab (x : FVec Ideal S256x20x83x16 .f32) (j : ℕ) : FVec Ideal S256x83x16 .f32 :=
  shapeCast S256x83x16 (Host.dynamicSlice S256x1x83x16 x
    (fun k => ((![constantI S_ 32 0#32, select (cmpi .slt (constantI S_ 32 (BitVec.ofNat 32 j)) (constantI S_ 32 0#32))
      (addi (constantI S_ 32 (BitVec.ofNat 32 j)) (constantI S_ 32 20#32)) (constantI S_ 32 (BitVec.ofNat 32 j)), constantI S_ 32 0#32, constantI S_ 32 0#32] :
        Fin 4 → IVec S_ 32) k (Shape.Idx.first h_S_)).toInt) sliceFits_S256x20x83x16_S256x1x83x16) shapeCasts_S256x1x83x16_S256x83x16

variable (x : FVec Ideal S256x20x83x16 .f32) (Wz Wr Wh : FVec Ideal S16x32 .f32) (bz br bh : FVec Ideal S32 .f32) (Lz Lr Lh : FVec Ideal S64x32 .f32) (lz lr lh : FVec Ideal S32 .f32) (row col : IVec S3486 32) (nm : FVec Ideal S3486 .f32)

/-- The update gate. -/
def upd (j : ℕ) (s : FVec Ideal S256x83x32 .f32) : FVec Ideal S256x83x32 .f32 := sigm (gate (conv (slab x j) Wz row col nm bz) s Lz lz)

/-- One step of the recurrence. -/
def trip (j : ℕ) (s : FVec Ideal S256x83x32 .f32) : FVec Ideal S256x83x32 .f32 :=
  blend (upd x Wz bz Lz lz row col nm j s) s (Host.tanh (gate (conv (slab x j) Wh row col nm bh) (mulf s (upd x Wr br Lr lr row col nm j s)) Lh lh))

/-- The recurrence's state after `k` steps, from zero. -/
def hs : ℕ → FVec Ideal S256x83x32 .f32
  | 0 => broadcastInDim S256x83x32 ![] bcast_S_S256x83x32 (constant (F := Ideal) S_ .f32 0x00000000#32)
  | k + 1 => trip x Wz Wr Wh bz br bh Lz Lr Lh lz lr lh row col nm k (hs k)

/-- The loop's state with a given recurrence state. -/
def st (s : FVec Ideal S256x83x32 .f32) : Step.State Ideal :=
  { main_v38_18 := s, main_v38_0 := x, main_v38_1 := Wz, main_v38_2 := row, main_v38_3 := nm, main_v38_4 := col, main_v38_5 := bz, main_v38_6 := Lz,
    main_v38_7 := lz, main_v38_8 := Wr, main_v38_9 := br, main_v38_10 := Lr, main_v38_11 := lr, main_v38_12 := Wh, main_v38_13 := bh, main_v38_14 := Lh,
    main_v38_15 := lh }

/-- The loop's body changes the recurrence's state and nothing else. -/
theorem body_eq (j : ℕ) (s : FVec Ideal S256x83x32 .f32) :
    Step.step j (st x Wz Wr Wh bz br bh Lz Lr Lh lz lr lh row col nm s) = st x Wz Wr Wh bz br bh Lz Lr Lh lz lr lh row col nm (trip x Wz Wr Wh bz br bh Lz Lr Lh lz lr lh row col nm j s) := rfl

/-- The loop's state after `k` trips. -/
theorem trips_eq (it : ℕ → Step.State Ideal) (h0 : it 0 = st x Wz Wr Wh bz br bh Lz Lr Lh lz lr lh row col nm (hs x Wz Wr Wh bz br bh Lz Lr Lh lz lr lh row col nm 0)) (hs' : ∀ n, it (n + 1) = Step.step n (it n)) (k : ℕ) :
    it k = st x Wz Wr Wh bz br bh Lz Lr Lh lz lr lh row col nm (hs x Wz Wr Wh bz br bh Lz Lr Lh lz lr lh row col nm k) := by
  induction k with
  | zero => exact h0
  | succ k ih => rw [hs', ih]; rfl

/-- The observations at a step, at an index. -/
theorem slab_at (j : Fin 20) (p : Fin 256) (n : Fin 83) (f : Fin 16) : slab x j.val (ix3 p n f) = x (ix4 p j n f) := by
  have e0 : slab x j.val (ix3 p n f) = Host.dynamicSlice S256x1x83x16 x
    (fun k => ((![constantI S_ 32 0#32, select (cmpi .slt (constantI S_ 32 (BitVec.ofNat 32 j.val)) (constantI S_ 32 0#32))
      (addi (constantI S_ 32 (BitVec.ofNat 32 j.val)) (constantI S_ 32 20#32)) (constantI S_ 32 (BitVec.ofNat 32 j.val)), constantI S_ 32 0#32, constantI S_ 32 0#32] :
        Fin 4 → IVec S_ 32) k (Shape.Idx.first h_S_)).toInt) sliceFits_S256x20x83x16_S256x1x83x16 (ix4 p 0 n f) := by
    pointwise [slab]
  rw [e0]
  have t : (Scalar.select (IntOp.cmpi .slt (BitVec.ofNat 32 j.val) 0#32) (IntOp.addi (BitVec.ofNat 32 j.val) 20#32) (BitVec.ofNat 32 j.val)).toInt = (j.val : Int) := by
    rw [Routing.wrap_of_lt _ _ (by rw [WordCmp.toNat_ofNat_of_lt (by have := j.isLt; omega)]; have := j.isLt; omega),
      WordCmp.toInt_ofNat_of_lt (by have := j.isLt; omega)]
  refine congrArg x (funext fun a => Fin.ext ?_)
  match a with
  | ⟨0, _⟩ => exact Nat.zero_add _
  | ⟨1, _⟩ =>
    refine (congrArg (fun k : Int => (min (max k 0) ((19 : ℕ) : Int)).toNat + 0) t).trans ?_
    show (min (max (j.val : Int) 0) ((19 : ℕ) : Int)).toNat + 0 = j.val
    have := j.isLt
    omega
  | ⟨2, _⟩ => exact Nat.zero_add _
  | ⟨3, _⟩ => exact Nat.zero_add _

/-- A row of the state, rectified, through the last layer. -/
def lin (s : FVec Ideal S256x83x32 .f32) (L : FVec Ideal S32x10 .f32) (b : FVec Ideal S10 .f32) : FVec Ideal S21248x10 .f32 :=
  shapeCast S21248x10 (addf (Host.dotGeneral dot_S256x83x32_S32x10_S256x83x10_2_0_01_1_n_n none
    (maximumf s (broadcastInDim S256x83x32 ![] bcast_S_S256x83x32 (constant (F := Ideal) S_ .f32 0x00000000#32))) L)
    (broadcastInDim S256x83x10 ![0, 1, 2] bcast_S1x1x10_S256x83x10_0_1_2 (broadcastInDim S1x1x10 ![2] bcast_S10_S1x1x10_2 b))) shapeCasts_S256x83x10_S21248x10

/-- Every row's batch member. -/
def member : IVec S21248x1 32 :=
  broadcastInDim S21248x1 ![0] bcast_S21248_S21248x1_0 (shapeCast S21248 (broadcastInDim S256x83 ![0] bcast_S256_S256x83_0 (iotaInDim S256 32 0)) shapeCasts_S256x83_S21248)

/-- The mean over a batch member's rows. -/
def pool (s : FVec Ideal S256x83x32 .f32) (L : FVec Ideal S32x10 .f32) (b : FVec Ideal S10 .f32) : FVec Ideal S256x10 .f32 :=
  Host.divf (Host.scatterAdd scatter_S256x10_S21248x1_S21248x10_1_0_0_1 (broadcastInDim S256x10 ![] bcast_S_S256x10 (constant (F := Ideal) S_ .f32 0x00000000#32)) member (lin s L b))
    (broadcastInDim S256x10 ![] bcast_S_S256x10 (constant (F := Ideal) S_ .f32 0x42A60000#32))

/-- A row's batch member at an index. -/
theorem member_at (r : Fin 21248) : member (ix2 r 0) = BitVec.ofNat 32 (r.val / 83) := by
  pointwise [member]

/-- A row through the last layer at an index. -/
theorem lin_at (s : FVec Ideal S256x83x32 .f32) (L : FVec Ideal S32x10 .f32) (b : FVec Ideal S10 .f32) (p : Fin 256) (n : Fin 83) (o : Fin 10) :
    lin s L b (ix2 (⟨p.val * 83 + n.val, by omega⟩ : Fin 21248) o) = ((∑ h : Fin 32, max (s (ix3 p n h) : EReal) 0 * L (ix2 h o)) + b (ix1 o) : EReal) := by
  pointwise [lin]

/-- Where a row of the last layer lands: at its batch member. -/
theorem member_lands (r : Fin 21248) (o o' : Fin 10) (p : Fin 256) :
    scatter_S256x10_S21248x1_S21248x10_1_0_0_1.resultIdx? (ix2 r o) member = some (ix2 p o') ↔ r.val / 83 = p.val ∧ o = o' := by
  rw [Routing.resultIdx?_eq_some]
  have w0 : scatter_S256x10_S21248x1_S21248x10_1_0_0_1.window (ix2 r o) 0 = 0 := rfl
  have w1 : scatter_S256x10_S21248x1_S21248x10_1_0_0_1.window (ix2 r o) 1 = o.val := rfl
  have s1 : scatter_S256x10_S21248x1_S21248x10_1_0_0_1.start (ix2 r o) member 1 = 0 := rfl
  have s0 : scatter_S256x10_S21248x1_S21248x10_1_0_0_1.start (ix2 r o) member 0 = ((r.val / 83 : ℕ) : Int) := by
    rw [← WordCmp.toInt_ofNat_of_lt (w := 32) (show r.val / 83 < 2 ^ 31 by have := r.isLt; omega), ← member_at]
    show (member _).toInt = _
    congr 2
    funext a
    match a with
    | ⟨0, _⟩ => rfl
    | ⟨1, _⟩ => rfl
  constructor
  · intro H
    have h0 := H 0; have h1 := H 1
    rw [w0, s0] at h0; rw [w1, s1] at h1
    have e0 : ((ix2 p o' : S256x10.Idx) 0).val = p.val := rfl
    have e1 : ((ix2 p o' : S256x10.Idx) 1).val = o'.val := rfl
    rw [e0] at h0; rw [e1] at h1
    exact ⟨by omega, Fin.ext (by omega)⟩
  · rintro ⟨hn, rfl⟩ a
    match a with
    | ⟨0, _⟩ => exact (congrArg₂ (· + ·) s0 (congrArg Int.ofNat w0)).trans (by rw [hn]; simp)
    | ⟨1, _⟩ => exact (congrArg₂ (· + ·) s1 (congrArg Int.ofNat w1)).trans (by simp)

/-- The number of nodes, read as a real. -/
theorem eightythree : Ideal.ofBits .f32 0x42A60000#32 = ((83 : ℝ) : EReal) := by
  simp [Ideal.ofBits, Ideal.ieee, -EReal.coe_mul]; norm_num

/-- Half, read as a real. -/
theorem ofBits_half : Ideal.ofBits .f32 0x3F000000#32 = ((1 / 2 : ℝ) : EReal) := by
  simp [Ideal.ofBits, Ideal.ieee, -EReal.coe_mul]; norm_num

/-- The mean at an index. -/
theorem pool_at (s : FVec Ideal S256x83x32 .f32) (L : FVec Ideal S32x10 .f32) (b : FVec Ideal S10 .f32) (p : Fin 256) (o : Fin 10) :
    pool s L b (ix2 p o) = Ideal.div (∑ n : Fin 83, ((∑ h : Fin 32, max (s (ix3 p n h) : EReal) 0 * L (ix2 h o)) + b (ix1 o) : EReal)) (83 : ℝ) := by
  have e0 : pool s L b (ix2 p o) = Ideal.div (Host.scatterAdd scatter_S256x10_S21248x1_S21248x10_1_0_0_1 (broadcastInDim S256x10 ![] bcast_S_S256x10 (constant (F := Ideal) S_ .f32 0x00000000#32)) member (lin s L b) (ix2 p o)) (83 : ℝ) := by
    rw [← eightythree]
    pointwise [pool]
  rw [e0]
  refine congrArg (fun t : EReal => Ideal.div t (83 : ℝ)) ?_
  show ((broadcastInDim S256x10 ![] bcast_S_S256x10 (constant (F := Ideal) S_ .f32 0x00000000#32) (ix2 p o) : EReal)
    + ∑ j ∈ univ.filter (fun j => scatter_S256x10_S21248x1_S21248x10_1_0_0_1.resultIdx? j member = some (ix2 p o)), (lin s L b j : EReal) : EReal) = _
  refine Eq.trans (congrArg₂ (· + ·) (show _ = (0 : EReal) by pointwise) ?_) (zero_add _)
  refine Finset.sum_bij' (fun j _ => (⟨(j 0).val % 83, Nat.mod_lt _ (by decide)⟩ : Fin 83)) (fun n _ => (ix2 (⟨p.val * 83 + n.val, by omega⟩ : Fin 21248) o : S21248x10.Idx)) ?_ ?_ ?_ ?_ ?_
  · intro j hj; exact Finset.mem_univ _
  · intro n hn
    exact Finset.mem_filter.2 ⟨Finset.mem_univ _, (member_lands _ _ _ _).2 ⟨by show (p.val * 83 + n.val) / 83 = p.val; omega, rfl⟩⟩
  · intro j hj
    obtain ⟨r, o', rfl⟩ : ∃ (r : Fin 21248) (o' : Fin 10), j = ix2 r o' := ⟨j 0, j 1, eq_ix2 j⟩
    obtain ⟨h0, rfl⟩ := (member_lands r o' o p).1 (Finset.mem_filter.1 hj).2
    have e1 : (⟨p.val * 83 + r.val % 83, by omega⟩ : Fin 21248) = r := Fin.ext (by show p.val * 83 + r.val % 83 = r.val; omega)
    exact congrArg (fun q => (ix2 q o' : S21248x10.Idx)) e1
  · intro n hn
    exact Fin.ext (by show (p.val * 83 + n.val) % 83 = n.val; omega)
  · intro j hj
    obtain ⟨r, o', rfl⟩ : ∃ (r : Fin 21248) (o' : Fin 10), j = ix2 r o' := ⟨j 0, j 1, eq_ix2 j⟩
    obtain ⟨h0, rfl⟩ := (member_lands r o' o p).1 (Finset.mem_filter.1 hj).2
    have e1 : r = (⟨p.val * 83 + r.val % 83, by omega⟩ : Fin 21248) := Fin.ext (by show r.val = p.val * 83 + r.val % 83; omega)
    refine Eq.trans (congrArg (fun q => lin s L b (ix2 q o')) e1) (lin_at s L b p (⟨r.val % 83, Nat.mod_lt _ (by decide)⟩ : Fin 83) o')

/-- The reference's result is the pooled layer beside three of its arguments. -/
theorem result_eq (s : FVec Ideal S256x83x32 .f32) (a1 : FVec Ideal S256x2 .f32) (a2 : FVec Ideal S256x1 .f32) (a4 : FVec Ideal S256x24 .f32) (L : FVec Ideal S32x10 .f32) (b : FVec Ideal S10 .f32) :
    Step.R_main_v53 (st x Wz Wr Wh bz br bh Lz Lr Lh lz lr lh row col nm s) a1 a2 a4 L b
      = concatenate S256x37 1 [⟨S256x10, pool s L b⟩, ⟨S256x2, a1⟩, ⟨S256x1, a2⟩, ⟨S256x24, a4⟩] concatenates_S256x10_S256x2_S256x1_S256x24_S256x37_d1 := rfl

end Cert.ReferenceIdeal.Tgcn

end
-- ==== Proof.HostVals.lean ====
/- The arrays the region reads, at an index: block-diagonal weights, folded weights, the mixing matrix as sums over edges. -/
module

public import proofs.«01_k».proof.Proof.RefStep

@[expose] public section

set_option maxRecDepth 16384

noncomputable section

namespace Cert.KernelIdeal.Tgcn

open Idealize.ShloMosaic Idealize.ShloMosaic.TcCoe Idealize.SL.Sem Cert.KernelIdeal Cert.KernelIdeal.Gen
open Finset (univ)

/-- A pair of offsets' first word. -/
theorem at2_zero (a b : BitVec 32) : at2 a b (ix1 0) = a := by pointwise [at2, vec1]

/-- A pair of offsets' second word. -/
theorem at2_one (a b : BitVec 32) : at2 a b (ix1 1) = b := by pointwise [at2, vec1]

/-- A block written at block position `(q, q)`, at an index. -/
theorem block_at {R C A B : ℕ} (d : ScatterDims ⟨2, ![R, C]⟩ S2 ⟨2, ![A, B]⟩) (hA : 0 < A) (hB : 0 < B) (w0 : ∀ (i : Fin A) (j : Fin B), d.window (ix2 i j) 0 = i.val)
    (w1 : ∀ (i : Fin A) (j : Fin B), d.window (ix2 i j) 1 = j.val) (s0 : ∀ (i : Fin A) (j : Fin B) (idx : IVec S2 32), d.start (ix2 i j) idx 0 = (idx (ix1 0)).toInt)
    (s1 : ∀ (i : Fin A) (j : Fin B) (idx : IVec S2 32), d.start (ix2 i j) idx 1 = (idx (ix1 1)).toInt) (x : FVec Ideal ⟨2, ![R, C]⟩ .f32) (q : ℕ)
    (hqA : A * q < 2 ^ 31) (hqB : B * q < 2 ^ 31) (w : FVec Ideal ⟨2, ![A, B]⟩ .f32) (r : Fin R) (c : Fin C) :
    Host.scatter d (fun _ b => b) x (at2 (BitVec.ofNat 32 (A * q)) (BitVec.ofNat 32 (B * q))) w (ix2 r c)
      = if r.val / A = q ∧ c.val / B = q then w (ix2 (⟨r.val % A, Nat.mod_lt _ hA⟩ : Fin A) (⟨c.val % B, Nat.mod_lt _ hB⟩ : Fin B)) else x (ix2 r c) := by
  have key : ∀ (i : Fin A) (j : Fin B), d.resultIdx? (ix2 i j) (at2 (BitVec.ofNat 32 (A * q)) (BitVec.ofNat 32 (B * q))) = some (ix2 r c)
      ↔ A * q + i.val = r.val ∧ B * q + j.val = c.val := by
    intro i j
    have t0 : (BitVec.ofNat 32 (A * q)).toInt = ((A * q : ℕ) : Int) := WordCmp.toInt_ofNat_of_lt hqA
    have t1 : (BitVec.ofNat 32 (B * q)).toInt = ((B * q : ℕ) : Int) := WordCmp.toInt_ofNat_of_lt hqB
    have e0 : ((ix2 r c : (⟨2, ![R, C]⟩ : Shape).Idx) 0).val = r.val := rfl
    have e1 : ((ix2 r c : (⟨2, ![R, C]⟩ : Shape).Idx) 1).val = c.val := rfl
    rw [Routing.resultIdx?_eq_some]
    constructor
    · intro H
      have h0 := H 0; have h1 := H 1
      rw [w0, s0, at2_zero, t0, e0] at h0; rw [w1, s1, at2_one, t1, e1] at h1
      exact ⟨by exact_mod_cast h0, by exact_mod_cast h1⟩
    · rintro ⟨h0, h1⟩ a
      match a with
      | ⟨0, _⟩ =>
        show d.start (ix2 i j) _ 0 + ((d.window (ix2 i j) 0 : ℕ) : Int) = _
        rw [w0, s0, at2_zero, t0]; exact (by exact_mod_cast h0)
      | ⟨1, _⟩ =>
        show d.start (ix2 i j) _ 1 + ((d.window (ix2 i j) 1 : ℕ) : Int) = _
        rw [w1, s1, at2_one, t1]; exact (by exact_mod_cast h1)
  by_cases h : r.val / A = q ∧ c.val / B = q
  · rw [if_pos h]
    have hr : A * q + r.val % A = r.val := by rw [← h.1]; exact Nat.div_add_mod _ _
    have hc : B * q + c.val % B = c.val := by rw [← h.2]; exact Nat.div_add_mod _ _
    refine Routing.scatter_set_hit d x _ w _ _ ?_ (ix2 (⟨r.val % A, Nat.mod_lt _ hA⟩ : Fin A) (⟨c.val % B, Nat.mod_lt _ hB⟩ : Fin B)) ((key _ _).2 ⟨hr, hc⟩)
    intro k hk
    obtain ⟨i, j, rfl⟩ : ∃ (i : Fin A) (j : Fin B), k = ix2 i j := ⟨k 0, k 1, eq_ix2 k⟩
    obtain ⟨h0, h1⟩ := (key i j).1 hk
    have ei : i = ⟨r.val % A, Nat.mod_lt _ hA⟩ := Fin.ext (by show i.val = r.val % A; omega)
    have ej : j = ⟨c.val % B, Nat.mod_lt _ hB⟩ := Fin.ext (by show j.val = c.val % B; omega)
    rw [ei, ej]
  · rw [if_neg h]
    refine Routing.scatter_set_miss d x _ w _ fun k hk => h ?_
    obtain ⟨i, j, rfl⟩ : ∃ (i : Fin A) (j : Fin B), k = ix2 i j := ⟨k 0, k 1, eq_ix2 k⟩
    obtain ⟨h0, h1⟩ := (key i j).1 hk
    rw [← h0, ← h1]
    exact ⟨by rw [Nat.mul_add_div hA, Nat.div_eq_of_lt i.isLt]; omega, by rw [Nat.mul_add_div hB, Nat.div_eq_of_lt j.isLt]; omega⟩

/-- Four blocks down the diagonal, at an index. -/
theorem diag16_at (w : FVec Ideal S16x32 .f32) (r : Fin 64) (c : Fin 128) :
    diag16 w (ix2 r c) = if r.val / 16 = c.val / 32 then (w (ix2 (⟨r.val % 16, Nat.mod_lt _ (by decide)⟩ : Fin 16) (⟨c.val % 32, Nat.mod_lt _ (by decide)⟩ : Fin 32)) : EReal) else 0 := by
  have step : ∀ (x : FVec Ideal S64x128 .f32) (q : ℕ), q < 4 → put16 x (BitVec.ofNat 32 (16 * q)) (BitVec.ofNat 32 (32 * q)) w (ix2 r c)
      = if r.val / 16 = q ∧ c.val / 32 = q then w (ix2 (⟨r.val % 16, Nat.mod_lt _ (by decide)⟩ : Fin 16) (⟨c.val % 32, Nat.mod_lt _ (by decide)⟩ : Fin 32)) else x (ix2 r c) :=
    fun x q hq => block_at scatter_S64x128_S2_S16x32_01_n_01_0 (by decide) (by decide) (fun _ _ => rfl) (fun _ _ => rfl)
      (fun i j idx => congrArg (fun k => (idx k).toInt) (funext fun a => match a with | ⟨0, _⟩ => rfl))
      (fun i j idx => congrArg (fun k => (idx k).toInt) (funext fun a => match a with | ⟨0, _⟩ => rfl)) x q (by omega) (by omega) w r c
  have z : (broadcastInDim S64x128 ![] bcast_S_S64x128 (constant (F := Ideal) S_ .f32 0x00000000#32) (ix2 r c) : EReal) = 0 := by pointwise
  have e0 : diag16 w (ix2 r c) = put16 (put16 (put16 (put16 (broadcastInDim S64x128 ![] bcast_S_S64x128 (constant (F := Ideal) S_ .f32 0x00000000#32))
      (BitVec.ofNat 32 (16 * 0)) (BitVec.ofNat 32 (32 * 0)) w) (BitVec.ofNat 32 (16 * 1)) (BitVec.ofNat 32 (32 * 1)) w)
      (BitVec.ofNat 32 (16 * 2)) (BitVec.ofNat 32 (32 * 2)) w) (BitVec.ofNat 32 (16 * 3)) (BitVec.ofNat 32 (32 * 3)) w (ix2 r c) := rfl
  rw [e0, step _ 3 (by omega), step _ 2 (by omega), step _ 1 (by omega), step _ 0 (by omega), z]
  have h1 := r.isLt
  have h2 := c.isLt
  by_cases h : r.val / 16 = c.val / 32
  · rw [if_pos h]
    split_ifs <;> first | rfl | omega
  · rw [if_neg h]
    split_ifs <;> first | rfl | omega

/-- Four blocks down the diagonal, at an index. -/
theorem diag32_at (w : FVec Ideal S32x32 .f32) (r : Fin 128) (c : Fin 128) :
    diag32 w (ix2 r c) = if r.val / 32 = c.val / 32 then (w (ix2 (⟨r.val % 32, Nat.mod_lt _ (by decide)⟩ : Fin 32) (⟨c.val % 32, Nat.mod_lt _ (by decide)⟩ : Fin 32)) : EReal) else 0 := by
  have step : ∀ (x : FVec Ideal S128x128 .f32) (q : ℕ), q < 4 → put32 x (BitVec.ofNat 32 (32 * q)) (BitVec.ofNat 32 (32 * q)) w (ix2 r c)
      = if r.val / 32 = q ∧ c.val / 32 = q then w (ix2 (⟨r.val % 32, Nat.mod_lt _ (by decide)⟩ : Fin 32) (⟨c.val % 32, Nat.mod_lt _ (by decide)⟩ : Fin 32)) else x (ix2 r c) :=
    fun x q hq => block_at scatter_S128x128_S2_S32x32_01_n_01_0 (by decide) (by decide) (fun _ _ => rfl) (fun _ _ => rfl)
      (fun i j idx => congrArg (fun k => (idx k).toInt) (funext fun a => match a with | ⟨0, _⟩ => rfl))
      (fun i j idx => congrArg (fun k => (idx k).toInt) (funext fun a => match a with | ⟨0, _⟩ => rfl)) x q (by omega) (by omega) w r c
  have z : (broadcastInDim S128x128 ![] bcast_S_S128x128 (constant (F := Ideal) S_ .f32 0x00000000#32) (ix2 r c) : EReal) = 0 := by pointwise
  have e0 : diag32 w (ix2 r c) = put32 (put32 (put32 (put32 (broadcastInDim S128x128 ![] bcast_S_S128x128 (constant (F := Ideal) S_ .f32 0x00000000#32))
      (BitVec.ofNat 32 (32 * 0)) (BitVec.ofNat 32 (32 * 0)) w) (BitVec.ofNat 32 (32 * 1)) (BitVec.ofNat 32 (32 * 1)) w)
      (BitVec.ofNat 32 (32 * 2)) (BitVec.ofNat 32 (32 * 2)) w) (BitVec.ofNat 32 (32 * 3)) (BitVec.ofNat 32 (32 * 3)) w (ix2 r c) := rfl
  rw [e0, step _ 3 (by omega), step _ 2 (by omega), step _ 1 (by omega), step _ 0 (by omega), z]
  have h1 := r.isLt
  have h2 := c.isLt
  by_cases h : r.val / 32 = c.val / 32
  · rw [if_pos h]
    split_ifs <;> first | rfl | omega
  · rw [if_neg h]
    split_ifs <;> first | rfl | omega

/-- Four blocks down the diagonal, at an index. -/
theorem diag10_at (w : FVec Ideal S32x10 .f32) (r : Fin 128) (c : Fin 40) :
    diag10 w (ix2 r c) = if r.val / 32 = c.val / 10 then (w (ix2 (⟨r.val % 32, Nat.mod_lt _ (by decide)⟩ : Fin 32) (⟨c.val % 10, Nat.mod_lt _ (by decide)⟩ : Fin 10)) : EReal) else 0 := by
  have step : ∀ (x : FVec Ideal S128x40 .f32) (q : ℕ), q < 4 → put10 x (BitVec.ofNat 32 (32 * q)) (BitVec.ofNat 32 (10 * q)) w (ix2 r c)
      = if r.val / 32 = q ∧ c.val / 10 = q then w (ix2 (⟨r.val % 32, Nat.mod_lt _ (by decide)⟩ : Fin 32) (⟨c.val % 10, Nat.mod_lt _ (by decide)⟩ : Fin 10)) else x (ix2 r c) :=
    fun x q hq => block_at scatter_S128x40_S2_S32x10_01_n_01_0 (by decide) (by decide) (fun _ _ => rfl) (fun _ _ => rfl)
      (fun i j idx => congrArg (fun k => (idx k).toInt) (funext fun a => match a with | ⟨0, _⟩ => rfl))
      (fun i j idx => congrArg (fun k => (idx k).toInt) (funext fun a => match a with | ⟨0, _⟩ => rfl)) x q (by omega) (by omega) w r c
  have z : (broadcastInDim S128x40 ![] bcast_S_S128x40 (constant (F := Ideal) S_ .f32 0x00000000#32) (ix2 r c) : EReal) = 0 := by pointwise
  have e0 : diag10 w (ix2 r c) = put10 (put10 (put10 (put10 (broadcastInDim S128x40 ![] bcast_S_S128x40 (constant (F := Ideal) S_ .f32 0x00000000#32))
      (BitVec.ofNat 32 (32 * 0)) (BitVec.ofNat 32 (10 * 0)) w) (BitVec.ofNat 32 (32 * 1)) (BitVec.ofNat 32 (10 * 1)) w)
      (BitVec.ofNat 32 (32 * 2)) (BitVec.ofNat 32 (10 * 2)) w) (BitVec.ofNat 32 (32 * 3)) (BitVec.ofNat 32 (10 * 3)) w (ix2 r c) := rfl
  rw [e0, step _ 3 (by omega), step _ 2 (by omega), step _ 1 (by omega), step _ 0 (by omega), z]
  have h1 := r.isLt
  have h2 := c.isLt
  by_cases h : r.val / 32 = c.val / 10
  · rw [if_pos h]
    split_ifs <;> first | rfl | omega
  · rw [if_neg h]
    split_ifs <;> first | rfl | omega

end Cert.KernelIdeal.Tgcn

end
-- ==== Proof.Algebra.lean ====
/- Facts of the extended reals that the equality of the two programs rests on: the logistic function by a hyperbolic tangent, the sums over a
   block-diagonal weight, the folding of a graph convolution with its gate's upper weights, and the mean over the nodes. -/
module

public import Idealize.ShloMosaic.PureOps.Ideal
public import Idealize.ShloMosaic.Lib.Pipeline.ValueKit

@[expose] public section

noncomputable section

namespace Cert.Tgcn

open Idealize.ShloMosaic

/-- The cast of a finite sum of reals is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function at a real is a half plus half the hyperbolic tangent of half the argument. -/
theorem logistic_real (r : ℝ) : (1 + Real.exp (-r))⁻¹ = 1 / 2 + 1 / 2 * Real.tanh (1 / 2 * r) := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [h1]
  set a := Real.exp (1 / 2 * r) with ha
  set b := Real.exp (-(1 / 2 * r)) with hb
  have pa : 0 < a := Real.exp_pos _
  have pb : 0 < b := Real.exp_pos _
  have p1 : 1 + b * b ≠ 0 := by positivity
  have p2 : a + b ≠ 0 := by positivity
  field_simp
  nlinarith [h2]

/-- The logistic function over the extended reals, by the hyperbolic tangent. -/
theorem half_tanh (x : EReal) :
    ((1 / 2 : ℝ) : EReal) + ((1 / 2 : ℝ) : EReal) * Ideal.tanh (((1 / 2 : ℝ) : EReal) * x) = Ideal.div 1 (1 + Ideal.exp (-x)) := by
  change _ = Ideal.logistic x
  induction x with
  | bot =>
    rw [Ideal.logistic_bot, EReal.coe_mul_bot_of_pos (by norm_num)]
    change _ + _ * (-1 : EReal) = 0
    rw [← EReal.coe_one, ← EReal.coe_neg, ← EReal.coe_mul, ← EReal.coe_add]; norm_num
  | top =>
    rw [Ideal.logistic_top, EReal.coe_mul_top_of_pos (by norm_num)]
    change _ + _ * (1 : EReal) = 1
    rw [← EReal.coe_one, ← EReal.coe_mul, ← EReal.coe_add]; norm_num
  | coe r =>
    rw [Ideal.logistic_coe, ← EReal.coe_mul]
    change _ + _ * ((Real.tanh (1 / 2 * r) : ℝ) : EReal) = _
    rw [← EReal.coe_mul, ← EReal.coe_add, logistic_real]

/-- A real factor distributes over a sum with one real term. -/
theorem coe_add_mul (a r : ℝ) (y : EReal) : ((a : EReal) + y) * r = (a : EReal) * r + y * r := by
  induction y with
  | coe y => norm_cast; ring
  | bot =>
    rcases lt_trichotomy r 0 with h | h | h
    · rw [EReal.add_bot, EReal.bot_mul_coe_of_neg h, ← EReal.coe_mul, EReal.coe_add_top]
    · subst h; simp
    · rw [EReal.add_bot, EReal.bot_mul_coe_of_pos h, EReal.add_bot]
  | top =>
    rcases lt_trichotomy r 0 with h | h | h
    · rw [EReal.coe_add_top, EReal.top_mul_coe_of_neg h, EReal.add_bot]
    · subst h; simp
    · rw [EReal.coe_add_top, EReal.top_mul_coe_of_pos h, ← EReal.coe_mul, EReal.coe_add_top]

/-- A sum over `Fin (A * B)` whose terms vanish off one block of `B` is the sum over that block. -/
theorem sum_block {A B N : ℕ} (hN : N = A * B) (q : Fin A) (f : Fin N → EReal) (g : Fin B → EReal)
    (hin : ∀ (i : Fin B) (j : Fin N), j.val = q.val * B + i.val → f j = g i)
    (hout : ∀ (j : Fin N), j.val / B ≠ q.val → f j = 0) : ∑ j, f j = ∑ i, g i := by
  subst hN
  rw [← finProdFinEquiv.sum_comp, Fintype.sum_prod_type, Finset.sum_eq_single q]
  · exact Finset.sum_congr rfl fun i _ => hin i _ (by simp only [finProdFinEquiv_apply_val]; ring)
  · intro p _ hp
    refine Finset.sum_eq_zero fun i _ => hout _ fun h => hp (Fin.ext ?_)
    rw [← h, finProdFinEquiv_apply_val, Nat.add_mul_div_left _ _ (Nat.zero_lt_of_lt i.isLt), Nat.div_eq_of_lt i.isLt, zero_add]
  · exact fun h => absurd (Finset.mem_univ q) h

/-- The graph convolution of the node features followed by a gate's upper weights, folded: mix the features over the graph, then apply the product of
    the two weights. -/
theorem fold_real {E N K H : ℕ} (row col : Fin E → Fin N) (nm : Fin E → ℝ) (X : Fin N → Fin K → ℝ) (W : Fin K → Fin H → ℝ) (L : Fin H → ℝ) (n : Fin N) :
    ∑ h, (∑ e ∈ Finset.univ.filter (fun e => col e = n), (∑ f, X (row e) f * W f h) * nm e) * L h
      = ∑ f, (∑ r, (∑ e ∈ Finset.univ.filter (fun e => col e = n ∧ row e = r), nm e) * X r f) * ∑ h, W f h * L h := by
  have hm : ∀ f, ∑ r, (∑ e ∈ Finset.univ.filter (fun e => col e = n ∧ row e = r), nm e) * X r f
      = ∑ e ∈ Finset.univ.filter (fun e => col e = n), nm e * X (row e) f := by
    intro f
    simp_rw [Finset.sum_mul]
    rw [← Finset.sum_fiberwise (Finset.univ.filter (fun e => col e = n)) row]
    refine Finset.sum_congr rfl fun r _ => ?_
    rw [Finset.filter_filter]
    refine Finset.sum_congr rfl fun e he => ?_
    rw [(Finset.mem_filter.1 he).2.2]
  simp_rw [hm, Finset.sum_mul, Finset.mul_sum]
  rw [Finset.sum_comm]
  rw [Finset.sum_comm (s := Finset.univ) (t := Finset.univ.filter (fun e => col e = n))]
  refine Finset.sum_congr rfl fun e _ => ?_
  rw [Finset.sum_comm]
  refine Finset.sum_congr rfl fun f _ => Finset.sum_congr rfl fun h _ => ?_
  ring

/-- The same over the extended reals, with the convolution's bias taken along: the bias's part separates, whatever it is. -/
theorem fold_gate {E N K H : ℕ} (row col : Fin E → Fin N) (nm : Fin E → ℝ) (X : Fin N → Fin K → ℝ) (W : Fin K → Fin H → ℝ) (L : Fin H → ℝ) (b : Fin H → EReal)
    (n : Fin N) :
    ∑ h, ((∑ e ∈ Finset.univ.filter (fun e => col e = n), (∑ f, (X (row e) f : EReal) * (W f h : EReal)) * (nm e : EReal)) + b h) * (L h : EReal)
      = (∑ f, (∑ r, (∑ e ∈ Finset.univ.filter (fun e => col e = n ∧ row e = r), (nm e : EReal)) * (X r f : EReal)) * ∑ h, (W f h : EReal) * (L h : EReal))
        + ∑ h, b h * (L h : EReal) := by
  simp only [← EReal.coe_mul, ← coe_sum]
  simp only [coe_add_mul, Finset.sum_add_distrib]
  simp only [← EReal.coe_mul, ← coe_sum]
  rw [fold_real]

/-- Adding one value over all nodes and dividing by their number gives the value back, whatever it is. -/
theorem sum_const_mul {N : ℕ} (hN : 0 < N) (b : EReal) : (∑ _n : Fin N, b) * (((1 : ℝ) / N : ℝ) : EReal) = b := by
  rw [Finset.sum_const, Finset.card_univ, Fintype.card_fin, EReal.nsmul_eq_mul]
  have hp : (0 : ℝ) < N := by exact_mod_cast hN
  have hn : ((N : ℕ) : EReal) = ((N : ℝ) : EReal) := (EReal.coe_natCast).symm
  rw [mul_comm, ← mul_assoc, hn, ← EReal.coe_mul, one_div, inv_mul_cancel₀ hp.ne', EReal.coe_one, one_mul]

/-- A real factor that is not negative distributes over a finite sum of extended reals. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- Any factor distributes over a finite sum of extended reals none of which is negative. -/
theorem sum_mul_nonneg {ι : Type} (s : Finset ι) (f : ι → EReal) (w : EReal) (hf : ∀ i, 0 ≤ f i) : (∑ i ∈ s, f i) * w = ∑ i ∈ s, f i * w := by
  classical
  induction s using Finset.induction_on with
  | empty => simp
  | insert a s ha ih =>
    rw [Finset.sum_insert ha, Finset.sum_insert ha, EReal.right_distrib_of_nonneg (hf a) (Finset.sum_nonneg fun i _ => hf i), ih]

/-- The mean over the nodes of a linear layer is the linear layer of the mean: features that are not negative, any weights, any bias. -/
theorem mean_linear {N H : ℕ} (hN : 0 < N) (h : Fin N → Fin H → EReal) (hh : ∀ n i, 0 ≤ h n i) (w : Fin H → EReal) (b : EReal) :
    (∑ n, ((∑ i, h n i * w i) + b)) * (((1 : ℝ) / N : ℝ) : EReal) = (∑ i, (∑ n, h n i) * (((1 : ℝ) / N : ℝ) : EReal) * w i) + b := by
  have hr : (0 : ℝ) ≤ 1 / N := by positivity
  rw [Finset.sum_add_distrib, EReal.right_distrib_of_nonneg_of_ne_top (by exact_mod_cast hr) (EReal.coe_ne_top _), sum_const_mul hN, Finset.sum_comm,
    sum_mul_coe _ _ _ hr]
  congr 1
  refine Finset.sum_congr rfl fun i _ => ?_
  rw [← sum_mul_nonneg _ _ _ (fun n => hh n i), mul_assoc, mul_assoc, mul_comm (w i)]

end Cert.Tgcn

end
-- ==== Proof.HostAt.lean ====
/- The arrays the region reads, at an index: gates side by side, folded weights, regrouped observations. -/
module

public import proofs.«01_k».proof.Proof.HostVals
public import proofs.«01_k».proof.Proof.Algebra

@[expose] public section

set_option maxRecDepth 16384

noncomputable section

namespace Cert.KernelIdeal.Tgcn

open Idealize.ShloMosaic Idealize.ShloMosaic.TcCoe Idealize.SL.Sem Cert.KernelIdeal Cert.KernelIdeal.Gen
open Finset (univ)

/-- The weights an even step's columns meet, at an index. -/
theorem evenW_at (v : Fin 3 → FVec Ideal S16x32 .f32) (k j : Fin 128) (w : Fin 3) :
    evenW (v 0) (v 1) (v 2) (ix2 k (⟨128 * w.val + j.val, by omega⟩ : Fin 384)) = if k.val / 16 = 0 + j.val / 32 then (v w (ix2 (⟨k.val % 16, by omega⟩ : Fin 16) (⟨j.val % 32, by omega⟩ : Fin 32)) : EReal) else 0 := by
  have hj := j.isLt
  have hk := k.isLt
  have key : evenW (v 0) (v 1) (v 2) (ix2 k (⟨128 * w.val + j.val, by omega⟩ : Fin 384))
      = if h : k.val < 64 then diag16 (v w) (ix2 (⟨k.val, h⟩ : Fin 64) j) else 0 := by
    fin_cases w
    · pointwise [evenW, gates3, zero3]
    · pointwise [evenW, gates3, zero3]
    · pointwise [evenW, gates3, zero3]
      by_cases h : k.val < 64
      · rw [dif_pos h, dif_pos h]
        rw [dif_neg (by omega), dif_neg (by omega)]
        generalize diag16 (v 2) = D
        exact congrArg (fun a => D (ix2 _ a)) (Fin.ext (by show 256 + j.val - 128 - 128 = j.val; omega))
      · rw [dif_neg h, dif_neg h]
  rw [key]
  split_ifs with h h' h'
  · rw [diag16_at, if_pos (by show k.val / 16 = j.val / 32; omega)]
  · rw [diag16_at, if_neg (by show ¬ k.val / 16 = j.val / 32; omega)]
  · omega
  · rfl

/-- The weights an odd step's columns meet, at an index. -/
theorem oddW_at (v : Fin 3 → FVec Ideal S16x32 .f32) (k j : Fin 128) (w : Fin 3) :
    oddW (v 0) (v 1) (v 2) (ix2 k (⟨128 * w.val + j.val, by omega⟩ : Fin 384)) = if k.val / 16 = 4 + j.val / 32 then (v w (ix2 (⟨k.val % 16, by omega⟩ : Fin 16) (⟨j.val % 32, by omega⟩ : Fin 32)) : EReal) else 0 := by
  have hj := j.isLt
  have hk := k.isLt
  have key : oddW (v 0) (v 1) (v 2) (ix2 k (⟨128 * w.val + j.val, by omega⟩ : Fin 384))
      = if h : k.val < 64 then 0 else diag16 (v w) (ix2 (⟨k.val - 64, by omega⟩ : Fin 64) j) := by
    fin_cases w
    · pointwise [oddW, gates3, zero3]
    · pointwise [oddW, gates3, zero3]
    · pointwise [oddW, gates3, zero3]
      by_cases h : k.val < 64
      · rw [dif_pos h, dif_pos h]
      · rw [dif_neg h, dif_neg h]
        rw [dif_neg (by omega), dif_neg (by omega)]
        generalize diag16 (v 2) = D
        exact congrArg (fun a => D (ix2 _ a)) (Fin.ext (by show 256 + j.val - 128 - 128 = j.val; omega))
  rw [key]
  split_ifs with h h' h'
  · omega
  · rfl
  · rw [diag16_at, if_pos (by show (k.val - 64) / 16 = j.val / 32; omega)]
    exact congrArg (v w) (congrArg (fun a => (ix2 a _ : S16x32.Idx)) (Fin.ext (by show (k.val - 64) % 16 = k.val % 16; omega)))
  · rw [diag16_at, if_neg (by show ¬ (k.val - 64) / 16 = j.val / 32; omega)]

/-- The folded biases side by side, at an index. -/
theorem bias3_at (v : Fin 3 → FVec Ideal S32 .f32) (j : Fin 128) (w : Fin 3) :
    bias3 (v 0) (v 1) (v 2) (ix2 0 (⟨128 * w.val + j.val, by omega⟩ : Fin 384)) = v w (ix1 (⟨j.val % 32, by omega⟩ : Fin 32)) := by
  fin_cases w
  · pointwise [bias3, tile4]
  · pointwise [bias3, tile4]
  · pointwise [bias3, tile4]
    rw [dif_neg (by omega), dif_neg (by omega)]
    exact congrArg (fun a => v 2 (ix1 a)) (Fin.ext (by show (256 + j.val - 128 - 128) % 32 = j.val % 32; omega))

/-- The two gates' state weights side by side, at an index. -/
theorem stateW_at (v : Fin 2 → FVec Ideal S32x32 .f32) (k j : Fin 128) (w : Fin 2) :
    stateW (v 0) (v 1) (ix2 k (⟨128 * w.val + j.val, by omega⟩ : Fin 256)) = if k.val / 32 = j.val / 32 then (v w (ix2 (⟨k.val % 32, by omega⟩ : Fin 32) (⟨j.val % 32, by omega⟩ : Fin 32)) : EReal) else 0 := by
  have key : stateW (v 0) (v 1) (ix2 k (⟨128 * w.val + j.val, by omega⟩ : Fin 256)) = diag32 (v w) (ix2 k j) := by
    fin_cases w <;> pointwise [stateW]
  rw [key, diag32_at]

/-- The candidate's state weights, at an index. -/
theorem candW_at (v : FVec Ideal S32x32 .f32) (k j : Fin 128) :
    candW v (ix2 k j) = if k.val / 32 = j.val / 32 then (v (ix2 (⟨k.val % 32, by omega⟩ : Fin 32) (⟨j.val % 32, by omega⟩ : Fin 32)) : EReal) else 0 :=
  (show candW v (ix2 k j) = diag32 v (ix2 k j) by pointwise [candW]).trans (diag32_at v k j)

/-- The last layer's bias four times over, at an index. -/
theorem lastB_at (b : FVec Ideal S10 .f32) (j : Fin 40) : lastB b (ix2 0 j) = b (ix1 (⟨j.val % 10, by omega⟩ : Fin 10)) := by
  pointwise [lastB]

/-- A folded weight, at an index. -/
theorem foldW_at (W : FVec Ideal S16x32 .f32) (L : FVec Ideal S64x32 .f32) (f : Fin 16) (u : Fin 32) :
    foldW W L (ix2 f u) = ∑ h : Fin 32, (W (ix2 f h) : EReal) * L (ix2 (⟨h.val, by omega⟩ : Fin 64) u) := by
  pointwise [foldW, top]

/-- A folded bias, at an index. -/
theorem foldB_at (b : FVec Ideal S32 .f32) (L : FVec Ideal S64x32 .f32) (Lb : FVec Ideal S32 .f32) (u : Fin 32) :
    foldB b L Lb (ix1 u) = ((∑ h : Fin 32, (b (ix1 h) : EReal) * L (ix2 (⟨h.val, by omega⟩ : Fin 64) u)) + Lb (ix1 u) : EReal) := by
  pointwise [foldB, top]

/-- The rows that meet the state, at an index. -/
theorem bot_at (L : FVec Ideal S64x32 .f32) (h u : Fin 32) : bot L (ix2 h u) = L (ix2 (⟨32 + h.val, by omega⟩ : Fin 64) u) := by
  pointwise [bot]

/-- The observations regrouped, at an index. -/
theorem regroup_at (x : FVec Ideal S256x20x83x16 .f32) (G : Fin 64) (n : Fin 83) (t : Fin 20) (q : Fin 4) (f : Fin 16) :
    regroup x (ix3 G n (⟨t.val * 64 + q.val * 16 + f.val, by omega⟩ : Fin 1280)) = x (ix4 (⟨G.val * 4 + q.val, by omega⟩ : Fin 256) t n f) := by
  pointwise [regroup]

end Cert.KernelIdeal.Tgcn

end
-- ==== Proof.Mixing.lean ====
/- The mixing matrix at an index: the sum of the weights of the edges from one node to another; every edge's weight is real. -/
module

public import proofs.«01_k».proof.Proof.HostAt

@[expose] public section

set_option maxRecDepth 16384

noncomputable section

namespace Cert.KernelIdeal.Tgcn

open Idealize.ShloMosaic Idealize.ShloMosaic.TcCoe Idealize.SL.Sem Cert.KernelIdeal Cert.KernelIdeal.Gen
open Finset (univ)

/-- An edge's source, or the node of a loop. -/
theorem rowIx_at (E : IVec S2x3403 32) (e : Fin 3486) :
    rowIx E (ix1 e) = if h : e.val < 3403 then E (ix2 0 (⟨e.val, h⟩ : Fin 3403)) else BitVec.ofNat 32 (e.val - 3403) := by
  pointwise [rowIx]

/-- An edge's target, or the node of a loop. -/
theorem colIx_at (E : IVec S2x3403 32) (e : Fin 3486) :
    colIx E (ix1 e) = if h : e.val < 3403 then E (ix2 1 (⟨e.val, h⟩ : Fin 3403)) else BitVec.ofNat 32 (e.val - 3403) := by
  pointwise [colIx]

/-- Sources in range are nodes. -/
theorem row_node (E : IVec S2x3403 32) (hE : ∀ i e, ∃ n : Fin 83, E (ix2 i e) = BitVec.ofNat 32 n.val) (e : Fin 3486) :
    ∃ n : Fin 83, rowIx E (ix1 e) = BitVec.ofNat 32 n.val := by
  rw [rowIx_at]
  by_cases h : e.val < 3403
  · rw [dif_pos h]; exact hE _ _
  · rw [dif_neg h]; exact ⟨⟨e.val - 3403, by omega⟩, rfl⟩

/-- Targets in range are nodes. -/
theorem col_node (E : IVec S2x3403 32) (hE : ∀ i e, ∃ n : Fin 83, E (ix2 i e) = BitVec.ofNat 32 n.val) (e : Fin 3486) :
    ∃ n : Fin 83, colIx E (ix1 e) = BitVec.ofNat 32 n.val := by
  rw [colIx_at]
  by_cases h : e.val < 3403
  · rw [dif_pos h]; exact hE _ _
  · rw [dif_neg h]; exact ⟨⟨e.val - 3403, by omega⟩, rfl⟩

/-- The reciprocal root of a degree is real, whatever the degree. -/
theorem recip_real (d : EReal) : ∃ r : ℝ, Scalar.select (Ideal.cmp .ogt d 0) (Ideal.div 1 (Ideal.sqrt d)) (0 : EReal) = (r : EReal) := by
  induction d with
  | bot => exact ⟨0, by simp [Scalar.select, Ideal.cmp]⟩
  | top => exact ⟨0, by simp [Scalar.select, Ideal.cmp, Ideal.div]⟩
  | coe d =>
    by_cases h : 0 < d
    · refine ⟨(Real.sqrt d)⁻¹, ?_⟩
      have h0 : Real.sqrt d ≠ 0 := (Real.sqrt_pos.2 h).ne'
      have h1 : ¬ d < 0 := not_lt.2 h.le
      simp [Scalar.select, Ideal.cmp, Ideal.div, h, h0, h1]
      exact (EReal.coe_inv _).symm
    · exact ⟨0, by simp [Scalar.select, Ideal.cmp, h]⟩

/-- The reciprocal root of every node's degree is real. -/
theorem dinv_real (E : IVec S2x3403 32) (n : Fin 83) : ∃ r : ℝ, dinv E (ix1 n) = (r : EReal) := by
  have e0 : dinv E (ix1 n) = Scalar.select (Ideal.cmp .ogt (degs E (ix1 n) : EReal) 0) (Ideal.div 1 (Ideal.sqrt (degs E (ix1 n)))) (0 : EReal) := by
    pointwise [dinv]
  rw [e0]
  exact recip_real _

/-- Every edge's weight is real. -/
theorem norms_real (E : IVec S2x3403 32) (e : Fin 3486) : ∃ r : ℝ, norms E (ix1 e) = (r : EReal) := by
  have g : ∀ idx : IVec S3486x1 32, ∃ r : ℝ, Host.gather gather_S83_S3486x1_S3486_n_0_n_n_0_1_1 (dinv E) idx (ix1 e) = (r : EReal) := by
    intro idx
    obtain ⟨k, hk⟩ : ∃ k, Host.gather gather_S83_S3486x1_S3486_n_0_n_n_0_1_1 (dinv E) idx (ix1 e) = dinv E k := ⟨_, rfl⟩
    obtain ⟨n, rfl⟩ : ∃ n : Fin 83, k = ix1 n := ⟨k 0, eq_ix1 k⟩
    rw [hk]; exact dinv_real E n
  obtain ⟨a, ha⟩ := g (colVec (wrapIx (rowIx E)))
  obtain ⟨b, hb⟩ := g (colVec (wrapIx (colIx E)))
  refine ⟨a * b, ?_⟩
  have e0 : norms E (ix1 e) = ((Host.gather gather_S83_S3486x1_S3486_n_0_n_n_0_1_1 (dinv E) (colVec (wrapIx (rowIx E))) (ix1 e) : EReal)
    * Host.gather gather_S83_S3486x1_S3486_n_0_n_n_0_1_1 (dinv E) (colVec (wrapIx (colIx E))) (ix1 e) : EReal) := rfl
  rw [e0, ha, hb, EReal.coe_mul]

/-- Targets and sources as two columns. -/
def pairs (E : IVec S2x3403 32) : IVec S3486x2 32 :=
  concatenate S3486x2 1 [⟨S3486x1, colVec (wrapIx (colIx E))⟩, ⟨S3486x1, colVec (wrapIx (rowIx E))⟩] concatenates_S3486x1_S3486x1_S3486x2_d1

/-- The first column is the targets. -/
theorem pairs_zero (E : IVec S2x3403 32) (e : Fin 3486) : pairs E (ix2 e 0) = colVec (wrapIx (colIx E)) (ix2 e 0) := by
  pointwise [pairs]

/-- The second column is the sources. -/
theorem pairs_one (E : IVec S2x3403 32) (e : Fin 3486) : pairs E (ix2 e 1) = colVec (wrapIx (rowIx E)) (ix2 e 0) := by
  pointwise [pairs]

/-- Where an edge's weight lands in the mixing matrix. -/
theorem pair_lands (idx : IVec S3486x2 32) (e : Fin 3486) (a b n r : Fin 83) (h0 : idx (ix2 e 0) = BitVec.ofNat 32 a.val) (h1 : idx (ix2 e 1) = BitVec.ofNat 32 b.val) :
    scatter_S83x83_S3486x2_S3486_n_01_01_1.resultIdx? (ix1 e) idx = some (ix2 n r) ↔ a = n ∧ b = r := by
  have t : ∀ k : Fin 83, (BitVec.ofNat 32 k.val).toInt = ((k.val : ℕ) : Int) := fun k => WordCmp.toInt_ofNat_of_lt (by have := k.isLt; omega)
  have w0 : scatter_S83x83_S3486x2_S3486_n_01_01_1.window (ix1 e) 0 = 0 := rfl
  have w1 : scatter_S83x83_S3486x2_S3486_n_01_01_1.window (ix1 e) 1 = 0 := rfl
  have s0 : scatter_S83x83_S3486x2_S3486_n_01_01_1.start (ix1 e) idx 0 = (a.val : Int) := by
    rw [← t, ← h0]
    show (idx _).toInt = _
    congr 2
    funext a
    match a with
    | ⟨0, _⟩ => rfl
    | ⟨1, _⟩ => rfl
  have s1 : scatter_S83x83_S3486x2_S3486_n_01_01_1.start (ix1 e) idx 1 = (b.val : Int) := by
    rw [← t, ← h1]
    show (idx _).toInt = _
    congr 2
    funext a
    match a with
    | ⟨0, _⟩ => rfl
    | ⟨1, _⟩ => rfl
  have e0 : ((ix2 n r : S83x83.Idx) 0).val = n.val := rfl
  have e1 : ((ix2 n r : S83x83.Idx) 1).val = r.val := rfl
  rw [Routing.resultIdx?_eq_some]
  constructor
  · intro H
    have h0 := H 0; have h1 := H 1
    rw [w0, s0, e0] at h0; rw [w1, s1, e1] at h1
    exact ⟨Fin.ext (by omega), Fin.ext (by omega)⟩
  · rintro ⟨rfl, rfl⟩ a
    match a with
    | ⟨0, _⟩ => exact (congrArg₂ (· + ·) s0 (congrArg Int.ofNat w0)).trans (by simp)
    | ⟨1, _⟩ => exact (congrArg₂ (· + ·) s1 (congrArg Int.ofNat w1)).trans (by simp)

/-- The mixing matrix at an index. -/
theorem mixing_at (E : IVec S2x3403 32) (row col : Fin 3486 → Fin 83) (hr : ∀ e, rowIx E (ix1 e) = BitVec.ofNat 32 (row e).val)
    (hc : ∀ e, colIx E (ix1 e) = BitVec.ofNat 32 (col e).val) (n r : Fin 83) :
    mixing E (ix2 n r) = ∑ e ∈ univ.filter (fun e => col e = n ∧ row e = r), (norms E (ix1 e) : EReal) := by
  have key : ∀ e : Fin 3486, scatter_S83x83_S3486x2_S3486_n_01_01_1.resultIdx? (ix1 e) (pairs E) = some (ix2 n r) ↔ col e = n ∧ row e = r := fun e =>
    pair_lands (pairs E) e (col e) (row e) n r ((pairs_zero E e).trans (Cert.ReferenceIdeal.Tgcn.column_at (colIx E) e (col e) (hc e)))
      ((pairs_one E e).trans (Cert.ReferenceIdeal.Tgcn.column_at (rowIx E) e (row e) (hr e)))
  show ((broadcastInDim S83x83 ![] bcast_S_S83x83 (constant (F := Ideal) S_ .f32 0x00000000#32) (ix2 n r) : EReal)
    + ∑ j ∈ univ.filter (fun j => scatter_S83x83_S3486x2_S3486_n_01_01_1.resultIdx? j (pairs E) = some (ix2 n r)), (norms E j : EReal) : EReal) = _
  refine Eq.trans (congrArg₂ (· + ·) (show _ = (0 : EReal) by pointwise) ?_) (zero_add _)
  refine Finset.sum_bij' (fun j _ => (j 0 : Fin 3486)) (fun e _ => (ix1 e : S3486.Idx)) ?_ ?_ ?_ ?_ ?_
  · intro j hj
    obtain ⟨e, rfl⟩ : ∃ e : Fin 3486, j = ix1 e := ⟨j 0, eq_ix1 j⟩
    exact Finset.mem_filter.2 ⟨Finset.mem_univ _, (key e).1 (Finset.mem_filter.1 hj).2⟩
  · intro e he
    exact Finset.mem_filter.2 ⟨Finset.mem_univ _, (key e).2 (Finset.mem_filter.1 he).2⟩
  · intro j hj; exact (eq_ix1 j).symm
  · intro e he; rfl
  · intro j hj; exact congrArg (norms E) (eq_ix1 j)

/-- The padded mixing matrix on the nodes' rows. -/
theorem mixPad_at (E : IVec S2x3403 32) (n r : Fin 83) : mixPad E (ix2 (⟨n.val, by omega⟩ : Fin 88) r) = mixing E (ix2 n r) := by
  have key : ∀ i j : Fin 83, scatter_S88x83_S1_S83x83_01_n_0_0.resultIdx? (ix2 i j) (vec1 0#32) = some (ix2 (⟨n.val, by omega⟩ : Fin 88) r) ↔ i = n ∧ j = r := by
    intro i j
    have w0 : scatter_S88x83_S1_S83x83_01_n_0_0.window (ix2 i j) 0 = i.val := rfl
    have w1 : scatter_S88x83_S1_S83x83_01_n_0_0.window (ix2 i j) 1 = j.val := rfl
    have s0 : scatter_S88x83_S1_S83x83_01_n_0_0.start (ix2 i j) (vec1 0#32) 0 = 0 :=
      (show ∀ idx : IVec S1 32, scatter_S88x83_S1_S83x83_01_n_0_0.start (ix2 i j) idx 0 = (idx (ix1 0)).toInt from
        fun idx => congrArg (fun k => (idx k).toInt) (funext fun a => match a with | ⟨0, _⟩ => rfl)) (vec1 0#32) |>.trans
      (congrArg BitVec.toInt (show vec1 0#32 (ix1 0) = 0#32 by pointwise [vec1]))
    have s1 : scatter_S88x83_S1_S83x83_01_n_0_0.start (ix2 i j) (vec1 0#32) 1 = 0 := rfl
    have e0 : ((ix2 (⟨n.val, by omega⟩ : Fin 88) r : S88x83.Idx) 0).val = n.val := rfl
    have e1 : ((ix2 (⟨n.val, by omega⟩ : Fin 88) r : S88x83.Idx) 1).val = r.val := rfl
    rw [Routing.resultIdx?_eq_some]
    constructor
    · intro H
      have h0 := H 0; have h1 := H 1
      rw [w0, s0, e0] at h0; rw [w1, s1, e1] at h1
      exact ⟨Fin.ext (by omega), Fin.ext (by omega)⟩
    · rintro ⟨rfl, rfl⟩ a
      match a with
      | ⟨0, _⟩ => exact (congrArg₂ (· + ·) s0 (congrArg Int.ofNat w0)).trans (by simp)
      | ⟨1, _⟩ => exact (congrArg₂ (· + ·) s1 (congrArg Int.ofNat w1)).trans (by simp)
  have e0 : mixPad E (ix2 (⟨n.val, by omega⟩ : Fin 88) r) = Host.scatter scatter_S88x83_S1_S83x83_01_n_0_0 (fun _ b => b)
      (broadcastInDim S88x83 ![] bcast_S_S88x83 (constant (F := Ideal) S_ .f32 0x00000000#32)) (vec1 0#32) (mixing E) (ix2 (⟨n.val, by omega⟩ : Fin 88) r) := by
    pointwise [mixPad]
  rw [e0]
  generalize mixing E = M
  refine Routing.scatter_set_hit scatter_S88x83_S1_S83x83_01_n_0_0 _ _ M _ _ ?_ (ix2 n r) ((key n r).2 ⟨rfl, rfl⟩)
  intro k hk
  obtain ⟨i, j, rfl⟩ : ∃ (i j : Fin 83), k = ix2 i j := ⟨k 0, k 1, eq_ix2 k⟩
  obtain ⟨rfl, rfl⟩ := (key i j).1 hk
  rfl

end Cert.KernelIdeal.Tgcn

end
-- ==== Proof.Step.lean ====
/- The kernel's state, row by row and column by column, is the reference's state. -/
module

public import proofs.«01_k».proof.Proof.Mixing

@[expose] public section

set_option maxRecDepth 16384

noncomputable section

namespace Cert.KernelIdeal.Tgcn

open Idealize.ShloMosaic Idealize.ShloMosaic.TcCoe Idealize.SL.Sem Cert.KernelIdeal Cert.KernelIdeal.Gen
open Finset (univ)

/-- A pair of steps' columns at an index. -/
theorem pairCols_at (mx : Vec Ideal S1408x1280 .bf16) (k : Fin 10) (R : Fin 1408) (j : Fin 128) :
    pairCols (F := Ideal) mx k.val (ix2 R j) = mx (ix2 R (⟨128 * k.val + j.val, by omega⟩ : Fin 1280)) := by
  fin_cases k <;> pointwise [pairCols]

/-- The gates' input part at an index. -/
theorem inGates_at (A : FVec Ideal S128x384 .bf16) (c : FVec Ideal S1x384 .f32) (s : FVec Ideal S1408x128 .bf16) (R : Fin 1408) (j : Fin 384) :
    inGates (F := Ideal) A c s (ix2 R j) = ((∑ k : Fin 128, (s (ix2 R k) : EReal) * A (ix2 k j)) + c (ix2 0 j) : EReal) := by
  pointwise [inGates]

/-- The update and reset gates' arguments at an index. -/
theorem zrIn_at (U : FVec Ideal S128x256 .bf16) (g : FVec Ideal S1408x384 .f32) (h : FVec Ideal S1408x128 .f32) (R : Fin 1408) (j : Fin 256) :
    zrIn (F := Ideal) U g h (ix2 R j) = ((g (ix2 R (⟨j.val, by omega⟩ : Fin 384)) : EReal) + ∑ k : Fin 128, (h (ix2 R k) : EReal) * U (ix2 k j) : EReal) := by
  pointwise [zrIn]

/-- The update gate at an index: one over one plus an exponential. -/
theorem zGate_at (y : FVec Ideal S1408x256 .f32) (R : Fin 1408) (j : Fin 128) :
    zGate (F := Ideal) y (ix2 R j) = Ideal.div 1 (1 + Ideal.exp (-(y (ix2 R (⟨128 * 0 + j.val, by omega⟩ : Fin 256)) : EReal))) := by
  rw [← Cert.Tgcn.half_tanh, ← Cert.ReferenceIdeal.Tgcn.ofBits_half]
  pointwise [zGate, halfTanh, half, zCols]

/-- The reset gate at an index: one over one plus an exponential. -/
theorem rGate_at (y : FVec Ideal S1408x256 .f32) (R : Fin 1408) (j : Fin 128) :
    rGate (F := Ideal) y (ix2 R j) = Ideal.div 1 (1 + Ideal.exp (-(y (ix2 R (⟨128 * 1 + j.val, by omega⟩ : Fin 256)) : EReal))) := by
  rw [← Cert.Tgcn.half_tanh, ← Cert.ReferenceIdeal.Tgcn.ofBits_half]
  pointwise [rGate, halfTanh, half, rCols]

/-- One step of the recurrence at an index. -/
theorem next_at (U : FVec Ideal S128x256 .bf16) (Uh : FVec Ideal S128x128 .bf16) (g : FVec Ideal S1408x384 .f32) (h : FVec Ideal S1408x128 .f32) (R : Fin 1408) (j : Fin 128) :
    next (F := Ideal) U Uh g h (ix2 R j) = ((zGate (F := Ideal) (zrIn U g h) (ix2 R j) : EReal) * h (ix2 R j)
      + (1 - (zGate (F := Ideal) (zrIn U g h) (ix2 R j) : EReal)) * Ideal.tanh ((g (ix2 R (⟨128 * 2 + j.val, by omega⟩ : Fin 384)) : EReal)
        + ∑ k : Fin 128, ((h (ix2 R k) : EReal) * rGate (F := Ideal) (zrIn U g h) (ix2 R k)) * Uh (ix2 k j)) : EReal) := by
  pointwise [next, cand, one]

/-- The gates' input part at a step, a gate and a slot: the step's sixteen features through the folded weights. -/
theorem stepGates_at (mx : Vec Ideal S1408x1280 .bf16) (v : Fin 3 → FVec Ideal S16x32 .f32) (vb : Fin 3 → FVec Ideal S32 .f32) (t : Fin 20) (w : Fin 3) (q : Fin 4) (u : Fin 32)
    (R : Fin 1408) :
    stepGates (F := Ideal) mx (evenW (v 0) (v 1) (v 2)) (oddW (v 0) (v 1) (v 2)) (bias3 (vb 0) (vb 1) (vb 2)) t.val (ix2 R (⟨128 * w.val + (q.val * 32 + u.val), by omega⟩ : Fin 384))
      = ((∑ f : Fin 16, (mx (ix2 R (⟨t.val * 64 + q.val * 16 + f.val, by omega⟩ : Fin 1280)) : EReal) * v w (ix2 f u)) + vb w (ix1 u) : EReal) := by
  have hq := q.isLt
  have hu := u.isLt
  have ht := t.isLt
  have eu : (⟨(q.val * 32 + u.val) % 32, by omega⟩ : Fin 32) = u := Fin.ext (by show (q.val * 32 + u.val) % 32 = u.val; omega)
  have hA : ∀ k : Fin 128, (if t.val % 2 = 0 then evenW (v 0) (v 1) (v 2) else oddW (v 0) (v 1) (v 2)) (ix2 k (⟨128 * w.val + (q.val * 32 + u.val), by omega⟩ : Fin 384))
      = if k.val / 16 = t.val % 2 * 4 + q.val then (v w (ix2 (⟨k.val % 16, by omega⟩ : Fin 16) u) : EReal) else 0 := by
    intro k
    split_ifs with h h1 h1
    · rw [show evenW (v 0) (v 1) (v 2) (ix2 k (⟨128 * w.val + (q.val * 32 + u.val), by omega⟩ : Fin 384)) = _ from
        evenW_at v k (⟨q.val * 32 + u.val, by omega⟩ : Fin 128) w, if_pos (by show k.val / 16 = 0 + (q.val * 32 + u.val) / 32; omega)]
      exact congrArg (fun a => v w (ix2 _ a)) eu
    · rw [show evenW (v 0) (v 1) (v 2) (ix2 k (⟨128 * w.val + (q.val * 32 + u.val), by omega⟩ : Fin 384)) = _ from
        evenW_at v k (⟨q.val * 32 + u.val, by omega⟩ : Fin 128) w, if_neg (by show ¬ k.val / 16 = 0 + (q.val * 32 + u.val) / 32; omega)]
    · rw [show oddW (v 0) (v 1) (v 2) (ix2 k (⟨128 * w.val + (q.val * 32 + u.val), by omega⟩ : Fin 384)) = _ from
        oddW_at v k (⟨q.val * 32 + u.val, by omega⟩ : Fin 128) w, if_pos (by show k.val / 16 = 4 + (q.val * 32 + u.val) / 32; omega)]
      exact congrArg (fun a => v w (ix2 _ a)) eu
    · rw [show oddW (v 0) (v 1) (v 2) (ix2 k (⟨128 * w.val + (q.val * 32 + u.val), by omega⟩ : Fin 384)) = _ from
        oddW_at v k (⟨q.val * 32 + u.val, by omega⟩ : Fin 128) w, if_neg (by show ¬ k.val / 16 = 4 + (q.val * 32 + u.val) / 32; omega)]
  rw [stepGates, inGates_at]
  refine congrArg₂ (fun a b : EReal => a + b) ?_ ?_
  · refine Cert.Tgcn.sum_block (A := 8) (B := 16) rfl (⟨t.val % 2 * 4 + q.val, by omega⟩ : Fin 8) _ _ ?_ ?_
    · intro i j hj
      have hj' : j.val = (t.val % 2 * 4 + q.val) * 16 + i.val := hj
      rw [hA, if_pos (by omega)]
      refine congrArg₂ (fun a b : EReal => a * b) ?_ ?_
      · rw [show pairCols (F := Ideal) mx (t.val / 2) (ix2 R j) = _ from pairCols_at mx (⟨t.val / 2, by omega⟩ : Fin 10) R j]
        exact congrArg (fun a => mx (ix2 R a)) (Fin.ext (by show 128 * (t.val / 2) + j.val = t.val * 64 + q.val * 16 + i.val; omega))
      · exact congrArg (fun a => v w (ix2 a u)) (Fin.ext (by show j.val % 16 = i.val; omega))
    · intro j hj
      rw [hA, if_neg hj, mul_zero]
  · rw [show bias3 (vb 0) (vb 1) (vb 2) (ix2 0 (⟨128 * w.val + (q.val * 32 + u.val), by omega⟩ : Fin 384)) = _ from bias3_at vb (⟨q.val * 32 + u.val, by omega⟩ : Fin 128) w]
    exact congrArg (fun a => vb w (ix1 a)) eu

/-- A state through a gate's state weights: the slot's 32 entries. -/
theorem slot_sum (s : Fin 128 → EReal) (B : FVec Ideal S32x32 .f32) (q : Fin 4) (u : Fin 32) (g : Fin 32 → EReal)
    (hg : ∀ i : Fin 32, s ⟨q.val * 32 + i.val, by omega⟩ = g i) (M : Fin 128 → EReal)
    (hM : ∀ k : Fin 128, M k = if k.val / 32 = (q.val * 32 + u.val) / 32 then (B (ix2 (⟨k.val % 32, by omega⟩ : Fin 32) (⟨(q.val * 32 + u.val) % 32, by omega⟩ : Fin 32)) : EReal) else 0) :
    ∑ k, s k * M k = ∑ i : Fin 32, g i * B (ix2 i u) := by
  have hq := q.isLt
  have hu := u.isLt
  refine Cert.Tgcn.sum_block (A := 4) (B := 32) rfl q _ _ ?_ ?_
  · intro i j hj
    have ej : j = ⟨q.val * 32 + i.val, by omega⟩ := Fin.ext hj
    rw [hM, if_pos (by omega), ← hg i, ← ej]
    refine congrArg (fun a => s j * B a) (congrArg₂ (fun a b => (ix2 a b : S32x32.Idx)) (Fin.ext ?_) (Fin.ext ?_))
    · show j.val % 32 = i.val; omega
    · show (q.val * 32 + u.val) % 32 = u.val; omega
  · intro j hj
    rw [hM, if_neg (by omega), mul_zero]

end Cert.KernelIdeal.Tgcn

end
-- ==== Proof.Same.lean ====
/- The kernel's state, row by row and column by column, is the reference's state. -/
module

public import proofs.«01_k».proof.Proof.Step

@[expose] public section

set_option maxRecDepth 16384

noncomputable section

namespace Cert.KernelIdeal.Tgcn

open Idealize.ShloMosaic Idealize.ShloMosaic.TcCoe Idealize.SL.Sem Cert.KernelIdeal Cert.KernelIdeal.Gen
open Finset (univ)

/-- The mixed features at an index: the edges' weights added up, times the observations. -/
theorem mixed_at (x : FVec Ideal S256x20x83x16 .f32) (E : IVec S2x3403 32) (row col : Fin 3486 → Fin 83) (hr : ∀ e, rowIx E (ix1 e) = BitVec.ofNat 32 (row e).val)
    (hc : ∀ e, colIx E (ix1 e) = BitVec.ofNat 32 (col e).val) (p : Fin 4) (g : Fin 16) (q : Fin 4) (n : Fin 83) (t : Fin 20) (f : Fin 16) :
    mixRows (groups (regroup x) p) (mixPad E) (ix2 (⟨g.val * 88 + n.val, by omega⟩ : Fin 1408) (⟨t.val * 64 + q.val * 16 + f.val, by omega⟩ : Fin 1280))
      = ∑ r : Fin 83, (∑ e ∈ univ.filter (fun e => col e = n ∧ row e = r), (norms E (ix1 e) : EReal)) * x (ix4 (⟨(p.val * 16 + g.val) * 4 + q.val, by omega⟩ : Fin 256) t r f) := by
  refine Finset.sum_congr rfl fun r _ => ?_
  refine congrArg₂ (fun a b : EReal => a * b) ?_ ?_
  · rw [← mixing_at E row col hr hc, ← mixPad_at]
    exact congrArg (fun a => mixPad E (ix2 a r)) (Fin.ext (by show (g.val * 88 + n.val) % 88 = n.val; omega))
  · refine Eq.trans ?_ (regroup_at x (⟨p.val * 16 + g.val, by omega⟩ : Fin 64) r t q f)
    exact congrArg (fun a => regroup x (ix3 a r _)) (Fin.ext (by show p.val * 16 + (g.val * 88 + n.val) / 88 = p.val * 16 + g.val; omega))

/-- A gate's argument: the folded form is the reference's. -/
theorem gate_same (x : FVec Ideal S256x20x83x16 .f32) (E : IVec S2x3403 32) (row col : Fin 3486 → Fin 83) (hr : ∀ e, rowIx E (ix1 e) = BitVec.ofNat 32 (row e).val)
    (hc : ∀ e, colIx E (ix1 e) = BitVec.ofNat 32 (col e).val) (hx : ∀ i, ∃ r : ℝ, x i = (r : EReal)) (W : FVec Ideal S16x32 .f32) (hW : ∀ i, ∃ r : ℝ, W i = (r : EReal))
    (L : FVec Ideal S64x32 .f32) (hL : ∀ (h u : Fin 32), ∃ r : ℝ, L (ix2 (⟨h.val, by omega⟩ : Fin 64) u) = (r : EReal)) (b l : FVec Ideal S32 .f32)
    (s : FVec Ideal Cert.ReferenceIdeal.S256x83x32 .f32) (p : Fin 256) (t : Fin 20) (n : Fin 83) (u : Fin 32) :
    ((∑ f : Fin 16, (∑ r : Fin 83, (∑ e ∈ univ.filter (fun e => col e = n ∧ row e = r), (norms E (ix1 e) : EReal)) * x (ix4 p t r f)) * foldW W L (ix2 f u)) + foldB b L l (ix1 u)
        + ∑ i : Fin 32, (s (ix3 p n i) : EReal) * bot L (ix2 i u) : EReal)
      = Cert.ReferenceIdeal.Tgcn.gate (Cert.ReferenceIdeal.Tgcn.conv (Cert.ReferenceIdeal.Tgcn.slab x t.val) W (rowIx E) (colIx E) (norms E) b) s L l (ix3 p n u) := by
  rw [Cert.ReferenceIdeal.Tgcn.gate_at]
  simp only [Cert.ReferenceIdeal.Tgcn.conv_at _ W (rowIx E) (colIx E) (norms E) b row col hr hc, Cert.ReferenceIdeal.Tgcn.slab_at, foldW_at, foldB_at, bot_at]
  choose X hX using hx
  choose V hV using hW
  choose K hK using hL
  choose N hN using norms_real E
  simp only [hX, hV, hK, hN]
  rw [Cert.Tgcn.fold_gate row col N (fun r f => X (ix4 p t r f)) (fun f h => V (ix2 f h)) (fun h => K h u) (fun h => b (ix1 h)) n]
  have hs : ∀ A B C D : EReal, A + (B + C) + D = A + B + D + C := fun A B C D => by ac_rfl
  exact hs _ _ _ _

/-- The reference's gate at an index. -/
theorem upd_at (x : FVec Ideal S256x20x83x16 .f32) (W : FVec Ideal S16x32 .f32) (b : FVec Ideal S32 .f32) (L : FVec Ideal S64x32 .f32) (l : FVec Ideal S32 .f32) (ri ci : IVec S3486 32)
    (nm : FVec Ideal S3486 .f32) (j : ℕ) (s : FVec Ideal Cert.ReferenceIdeal.S256x83x32 .f32) (p : Fin 256) (n : Fin 83) (u : Fin 32) :
    Cert.ReferenceIdeal.Tgcn.upd x W b L l ri ci nm j s (ix3 p n u)
      = Ideal.div 1 (1 + Ideal.exp (-(Cert.ReferenceIdeal.Tgcn.gate (Cert.ReferenceIdeal.Tgcn.conv (Cert.ReferenceIdeal.Tgcn.slab x j) W ri ci nm b) s L l (ix3 p n u) : EReal))) := by
  pointwise [Cert.ReferenceIdeal.Tgcn.upd, Cert.ReferenceIdeal.Tgcn.sigm, Cert.ReferenceIdeal.Tgcn.ones]

/-- The reference's step at an index. -/
theorem blend_at (z s t : FVec Ideal Cert.ReferenceIdeal.S256x83x32 .f32) (i : Cert.ReferenceIdeal.S256x83x32.Idx) :
    Cert.ReferenceIdeal.Tgcn.blend z s (Host.tanh t) i = ((z i : EReal) * s i + (1 - (z i : EReal)) * Ideal.tanh (t i) : EReal) := by
  pointwise [Cert.ReferenceIdeal.Tgcn.blend, Cert.ReferenceIdeal.Tgcn.ones]

/-- Equal candidates give equal blends. -/
theorem blend_congr (z s a b : EReal) (h : a = b) : z * s + (1 - z) * Ideal.tanh a = z * s + (1 - z) * Ideal.tanh b := by rw [h]

variable (x : FVec Ideal S256x20x83x16 .f32) (E : IVec S2x3403 32) (W : Fin 3 → FVec Ideal S16x32 .f32) (b : Fin 3 → FVec Ideal S32 .f32) (L : Fin 3 → FVec Ideal S64x32 .f32)
  (l : Fin 3 → FVec Ideal S32 .f32)

/-- The reference's recurrence on the kernel's arguments. -/
def refState (k : ℕ) : FVec Ideal Cert.ReferenceIdeal.S256x83x32 .f32 :=
  Cert.ReferenceIdeal.Tgcn.hs x (W 0) (W 1) (W 2) (b 0) (b 1) (b 2) (L 0) (L 1) (L 2) (l 0) (l 1) (l 2) (rowIx E) (colIx E) (norms E) k

/-- The kernel's recurrence on the arrays the host computes. -/
def kerState (p : Fin 4) (k : ℕ) : FVec Ideal S1408x128 .f32 :=
  hid (F := Ideal) (mixRows (groups (regroup x) p) (mixPad E)) (evenW (foldW (W 0) (L 0)) (foldW (W 1) (L 1)) (foldW (W 2) (L 2)))
    (oddW (foldW (W 0) (L 0)) (foldW (W 1) (L 1)) (foldW (W 2) (L 2))) (bias3 (foldB (b 0) (L 0) (l 0)) (foldB (b 1) (L 1) (l 1)) (foldB (b 2) (L 2) (l 2)))
    (stateW (bot (L 0)) (bot (L 1))) (candW (bot (L 2))) k

/-- The kernel's input part of the gates. -/
def kerGates (p : Fin 4) (k : ℕ) : FVec Ideal S1408x384 .f32 :=
  stepGates (F := Ideal) (mixRows (groups (regroup x) p) (mixPad E)) (evenW (foldW (W 0) (L 0)) (foldW (W 1) (L 1)) (foldW (W 2) (L 2)))
    (oddW (foldW (W 0) (L 0)) (foldW (W 1) (L 1)) (foldW (W 2) (L 2))) (bias3 (foldB (b 0) (L 0) (l 0)) (foldB (b 1) (L 1) (l 1)) (foldB (b 2) (L 2) (l 2))) k

/-- The kernel's step. -/
theorem kerState_succ (p : Fin 4) (k : ℕ) : kerState x E W b L l p (k + 1)
    = next (F := Ideal) (stateW (bot (L 0)) (bot (L 1))) (candW (bot (L 2))) (kerGates x E W b L l p k) (kerState x E W b L l p k) := rfl

/-- The reference's step. -/
theorem refState_succ (k : ℕ) : refState x E W b L l (k + 1)
    = Cert.ReferenceIdeal.Tgcn.blend (Cert.ReferenceIdeal.Tgcn.upd x (W 0) (b 0) (L 0) (l 0) (rowIx E) (colIx E) (norms E) k (refState x E W b L l k)) (refState x E W b L l k)
      (Host.tanh (Cert.ReferenceIdeal.Tgcn.gate (Cert.ReferenceIdeal.Tgcn.conv (Cert.ReferenceIdeal.Tgcn.slab x k) (W 2) (rowIx E) (colIx E) (norms E) (b 2))
        (mulf (refState x E W b L l k) (Cert.ReferenceIdeal.Tgcn.upd x (W 1) (b 1) (L 1) (l 1) (rowIx E) (colIx E) (norms E) k (refState x E W b L l k))) (L 2) (l 2))) := rfl

/-- Every step's state is the reference's: slot `q` of group `g` at grid point `p` is batch member `(p * 16 + g) * 4 + q`. -/
theorem state_same (row col : Fin 3486 → Fin 83) (hr : ∀ e, rowIx E (ix1 e) = BitVec.ofNat 32 (row e).val)
    (hc : ∀ e, colIx E (ix1 e) = BitVec.ofNat 32 (col e).val) (hx : ∀ i, ∃ r : ℝ, x i = (r : EReal)) (hW : ∀ w i, ∃ r : ℝ, W w i = (r : EReal))
    (hL : ∀ w (h u : Fin 32), ∃ r : ℝ, L w (ix2 (⟨h.val, by omega⟩ : Fin 64) u) = (r : EReal)) (p : Fin 4) (k : ℕ) (hk : k ≤ 20) (g : Fin 16) (q : Fin 4) (n : Fin 83) (u : Fin 32) :
    kerState x E W b L l p k (ix2 (⟨g.val * 88 + n.val, by omega⟩ : Fin 1408) (⟨q.val * 32 + u.val, by omega⟩ : Fin 128))
      = refState x E W b L l k (ix3 (⟨(p.val * 16 + g.val) * 4 + q.val, by omega⟩ : Fin 256) n u) := by
  induction k generalizing u with
  | zero =>
    refine Eq.trans (b := (0 : EReal)) ?_ (Eq.symm ?_)
    · pointwise [kerState, hid]
    · pointwise [refState, Cert.ReferenceIdeal.Tgcn.hs]
  | succ k ih =>
    have ih := ih (by omega)
    have hg : ∀ (w : Fin 3) (u : Fin 32), kerGates x E W b L l p k (ix2 (⟨g.val * 88 + n.val, by omega⟩ : Fin 1408) (⟨128 * w.val + (q.val * 32 + u.val), by omega⟩ : Fin 384))
        = ((∑ f : Fin 16, (∑ r : Fin 83, (∑ e ∈ univ.filter (fun e => col e = n ∧ row e = r), (norms E (ix1 e) : EReal))
          * x (ix4 (⟨(p.val * 16 + g.val) * 4 + q.val, by omega⟩ : Fin 256) (⟨k, by omega⟩ : Fin 20) r f)) * foldW (W w) (L w) (ix2 f u)) + foldB (b w) (L w) (l w) (ix1 u) : EReal) := by
      intro w u
      refine (stepGates_at _ (fun w => foldW (W w) (L w)) (fun w => foldB (b w) (L w) (l w)) (⟨k, by omega⟩ : Fin 20) w q u _).trans ?_
      refine congrArg₂ (fun a b : EReal => a + b) (Finset.sum_congr rfl fun f _ => ?_) rfl
      exact congrArg (fun a : EReal => a * _) (mixed_at x E row col hr hc p g q n (⟨k, by omega⟩ : Fin 20) f)
    have hzr : ∀ (w : Fin 2) (u : Fin 32), zrIn (F := Ideal) (stateW (bot (L 0)) (bot (L 1))) (kerGates x E W b L l p k) (kerState x E W b L l p k)
          (ix2 (⟨g.val * 88 + n.val, by omega⟩ : Fin 1408) (⟨128 * w.val + (q.val * 32 + u.val), by omega⟩ : Fin 256))
        = Cert.ReferenceIdeal.Tgcn.gate (Cert.ReferenceIdeal.Tgcn.conv (Cert.ReferenceIdeal.Tgcn.slab x k) (W ⟨w.val, by omega⟩) (rowIx E) (colIx E) (norms E) (b ⟨w.val, by omega⟩))
          (refState x E W b L l k) (L ⟨w.val, by omega⟩) (l ⟨w.val, by omega⟩) (ix3 (⟨(p.val * 16 + g.val) * 4 + q.val, by omega⟩ : Fin 256) n u) := by
      intro w u
      refine Eq.trans ?_ (gate_same x E row col hr hc hx (W ⟨w.val, by omega⟩) (hW _) (L ⟨w.val, by omega⟩) (hL _) (b ⟨w.val, by omega⟩) (l ⟨w.val, by omega⟩) (refState x E W b L l k)
        (⟨(p.val * 16 + g.val) * 4 + q.val, by omega⟩ : Fin 256) (⟨k, by omega⟩ : Fin 20) n u)
      refine (zrIn_at _ _ _ _ _).trans ?_
      refine congrArg₂ (fun a b : EReal => a + b) (hg ⟨w.val, by omega⟩ u) ?_
      exact slot_sum (fun k' => kerState x E W b L l p k (ix2 (⟨g.val * 88 + n.val, by omega⟩ : Fin 1408) k')) (bot (L ⟨w.val, by omega⟩)) q u _ (fun i => ih i) _
        (fun k' => stateW_at (fun w : Fin 2 => bot (L ⟨w.val, by omega⟩)) k' (⟨q.val * 32 + u.val, by omega⟩ : Fin 128) w)
    have hz : ∀ u : Fin 32, zGate (F := Ideal) (zrIn (stateW (bot (L 0)) (bot (L 1))) (kerGates x E W b L l p k) (kerState x E W b L l p k))
          (ix2 (⟨g.val * 88 + n.val, by omega⟩ : Fin 1408) (⟨q.val * 32 + u.val, by omega⟩ : Fin 128))
        = Cert.ReferenceIdeal.Tgcn.upd x (W 0) (b 0) (L 0) (l 0) (rowIx E) (colIx E) (norms E) k (refState x E W b L l k) (ix3 (⟨(p.val * 16 + g.val) * 4 + q.val, by omega⟩ : Fin 256) n u) := by
      intro u
      rw [zGate_at, upd_at]
      exact congrArg (fun a : EReal => Ideal.div 1 (1 + Ideal.exp (-a))) (hzr 0 u)
    have hrr : ∀ u : Fin 32, rGate (F := Ideal) (zrIn (stateW (bot (L 0)) (bot (L 1))) (kerGates x E W b L l p k) (kerState x E W b L l p k))
          (ix2 (⟨g.val * 88 + n.val, by omega⟩ : Fin 1408) (⟨q.val * 32 + u.val, by omega⟩ : Fin 128))
        = Cert.ReferenceIdeal.Tgcn.upd x (W 1) (b 1) (L 1) (l 1) (rowIx E) (colIx E) (norms E) k (refState x E W b L l k) (ix3 (⟨(p.val * 16 + g.val) * 4 + q.val, by omega⟩ : Fin 256) n u) := by
      intro u
      rw [rGate_at, upd_at]
      exact congrArg (fun a : EReal => Ideal.div 1 (1 + Ideal.exp (-a))) (hzr 1 u)
    rw [kerState_succ, refState_succ, next_at, blend_at, hz u, ih u]
    refine blend_congr _ _ _ _ ?_
    refine Eq.trans ?_ (gate_same x E row col hr hc hx (W 2) (hW 2) (L 2) (hL 2) (b 2) (l 2) _ (⟨(p.val * 16 + g.val) * 4 + q.val, by omega⟩ : Fin 256) (⟨k, by omega⟩ : Fin 20) n u)
    refine congrArg₂ (fun a b : EReal => a + b) (hg 2 u) ?_
    refine slot_sum (fun k' => (kerState x E W b L l p k (ix2 (⟨g.val * 88 + n.val, by omega⟩ : Fin 1408) k') : EReal)
      * rGate (F := Ideal) (zrIn (stateW (bot (L 0)) (bot (L 1))) (kerGates x E W b L l p k) (kerState x E W b L l p k)) (ix2 (⟨g.val * 88 + n.val, by omega⟩ : Fin 1408) k'))
      (bot (L 2)) q u _ (fun i => ?_) _ (fun k' => candW_at (bot (L 2)) k' (⟨q.val * 32 + u.val, by omega⟩ : Fin 128))
    exact congrArg₂ (fun a b : EReal => a * b) (ih i) (hrr i)

end Cert.KernelIdeal.Tgcn

end
-- ==== Proof.Final.lean ====
/- The kernel's pooled result is the reference's. -/
module

public import proofs.«01_k».proof.Proof.Same

@[expose] public section

set_option maxRecDepth 16384

noncomputable section

namespace Cert.KernelIdeal.Tgcn

open Idealize.ShloMosaic Idealize.ShloMosaic.TcCoe Idealize.SL.Sem Cert.KernelIdeal Cert.KernelIdeal.Gen
open Finset (univ)

/-- A row's weight in the pooled sum. -/
def rowWeight (n : ℕ) : EReal := FloatOps.sitofp (F := Ideal) FTy.f32 (BitVec.setWidth 32 (IntOp.cmpi CmpIPredicate.slt (BitVec.ofNat 32 n) 83#32))

/-- A node's row counts once, a padding row not at all. -/
theorem rowWeight_eq (n : Fin 88) : rowWeight n.val = if n.val < 83 then 1 else 0 := by
  have h : ∀ n : Fin 88, (BitVec.setWidth 32 (IntOp.cmpi CmpIPredicate.slt (BitVec.ofNat 32 n.val) 83#32)).toInt = if n.val < 83 then 1 else 0 := by decide +kernel
  show (((BitVec.setWidth 32 (IntOp.cmpi CmpIPredicate.slt (BitVec.ofNat 32 n.val) 83#32)).toInt : ℝ) : EReal) = _
  rw [h]
  split_ifs <;> simp

/-- The named constant is one over the number of nodes. -/
theorem mean_eq : (Named.named (F := Ideal) (φ := .f32) κ "mean" 0x3C4565C8#32 : EReal) = ((1 / 83 : ℝ) : EReal) := rfl

/-- The pooled layer at an index. -/
theorem pooled_at (h : FVec Ideal S1408x128 .f32) (L : Vec Ideal S128x40 .f32) (b : Vec Ideal S1x40 .f32) (g : Fin 16) (j : Fin 40) :
    pooled (F := Ideal) h L b (ix3 0 g j) = ((∑ c : Fin 128, ((∑ n : Fin 88, max (h (ix2 (⟨g.val * 88 + n.val, by omega⟩ : Fin 1408) c) : EReal) 0 * rowWeight n.val)
      * ((1 / 83 : ℝ) : EReal)) * L (ix2 c j)) + b (ix2 0 j) : EReal) := by
  rw [← mean_eq]
  unfold rowWeight
  pointwise [pooled]

/-- The padding rows drop out of a pooled sum. -/
theorem sum_rows (f : Fin 88 → EReal) : ∑ n : Fin 88, f n * rowWeight n.val = ∑ n : Fin 83, f ⟨n.val, by omega⟩ := by
  refine (Fin.sum_univ_add (a := 83) (b := 5) (fun n : Fin (83 + 5) => f n * rowWeight n.val)).trans ?_
  have h0 : ∑ i : Fin 5, f (Fin.natAdd 83 i) * rowWeight (Fin.natAdd 83 i).val = 0 := Finset.sum_eq_zero fun i _ => by
    rw [show rowWeight (Fin.natAdd 83 i).val = _ from rowWeight_eq (Fin.natAdd 83 i), if_neg (by show ¬ 83 + i.val < 83; omega), mul_zero]
  refine (congrArg₂ (fun a b : EReal => a + b) (Finset.sum_congr rfl fun i _ => ?_) h0).trans (add_zero _)
  show f (Fin.castAdd 5 i) * rowWeight (Fin.castAdd 5 i).val = _
  rw [show rowWeight (Fin.castAdd 5 i).val = _ from rowWeight_eq (Fin.castAdd 5 i), if_pos (by show i.val < 83; exact i.isLt), mul_one]
  rfl

/-- Division by the number of nodes is multiplication by its reciprocal. -/
theorem div_nodes (y : EReal) : Ideal.div y ((83 : ℝ) : EReal) = y * ((1 / 83 : ℝ) : EReal) := by
  rw [Ideal.div, if_neg (by exact_mod_cast (by norm_num : (83 : ℝ) ≠ 0)), ← EReal.coe_inv, one_div]

/-- The pooled layer of a state that is the reference's, at a group and a slot. -/
theorem pooled_same (h : FVec Ideal S1408x128 .f32) (s : FVec Ideal Cert.ReferenceIdeal.S256x83x32 .f32) (L : FVec Ideal S32x10 .f32) (b : FVec Ideal S10 .f32) (p : Fin 4) (g : Fin 16)
    (q : Fin 4) (o : Fin 10)
    (hs : ∀ (n : Fin 83) (u : Fin 32), h (ix2 (⟨g.val * 88 + n.val, by omega⟩ : Fin 1408) (⟨q.val * 32 + u.val, by omega⟩ : Fin 128))
      = s (ix3 (⟨(p.val * 16 + g.val) * 4 + q.val, by omega⟩ : Fin 256) n u)) :
    pooled (F := Ideal) h (diag10 L) (lastB b) (ix3 0 g (⟨q.val * 10 + o.val, by omega⟩ : Fin 40))
      = Cert.ReferenceIdeal.Tgcn.pool s L b (ix2 (⟨(p.val * 16 + g.val) * 4 + q.val, by omega⟩ : Fin 256) o) := by
  have hq := q.isLt
  have ho := o.isLt
  have eo : (⟨(q.val * 10 + o.val) % 10, by omega⟩ : Fin 10) = o := Fin.ext (by show (q.val * 10 + o.val) % 10 = o.val; omega)
  rw [pooled_at, Cert.ReferenceIdeal.Tgcn.pool_at, div_nodes]
  refine Eq.trans ?_ (Cert.Tgcn.mean_linear (N := 83) (by decide) (fun n u => max (s (ix3 (⟨(p.val * 16 + g.val) * 4 + q.val, by omega⟩ : Fin 256) n u) : EReal) 0)
    (fun n u => le_max_right _ _) (fun u => (L (ix2 u o) : EReal)) (b (ix1 o))).symm
  refine congrArg₂ (fun a b : EReal => a + b) ?_ ?_
  · refine Cert.Tgcn.sum_block (A := 4) (B := 32) rfl q _ _ ?_ ?_
    · intro i j hj
      have ej : j = ⟨q.val * 32 + i.val, by omega⟩ := Fin.ext hj
      rw [sum_rows, diag10_at, if_pos (by show j.val / 32 = (q.val * 10 + o.val) / 10; omega), ej]
      refine congrArg₂ (fun a b : EReal => a * b) (congrArg₂ (fun a b : EReal => a * b) (Finset.sum_congr rfl fun n _ => ?_) (by norm_num)) ?_
      · exact congrArg (fun a : EReal => max a 0) (hs n i)
      · exact congrArg L (congrArg₂ (fun a b => (ix2 a b : S32x10.Idx)) (Fin.ext (by show (q.val * 32 + i.val) % 32 = i.val; omega)) eo)
    · intro j hj
      rw [diag10_at, if_neg (by show ¬ j.val / 32 = (q.val * 10 + o.val) / 10; omega), mul_zero]
  · rw [lastB_at]
    exact congrArg (fun a => b (ix1 a)) eo

variable (x : FVec Ideal S256x20x83x16 .f32) (E : IVec S2x3403 32) (W : Fin 3 → FVec Ideal S16x32 .f32) (b : Fin 3 → FVec Ideal S32 .f32) (L : Fin 3 → FVec Ideal S64x32 .f32)
  (l : Fin 3 → FVec Ideal S32 .f32) (L2 : FVec Ideal S32x10 .f32) (b2 : FVec Ideal S10 .f32)

/-- The region's state is the recurrence on the arrays as they are. -/
theorem state_eq (X : Vec Ideal S64x83x1280 .bf16) (M : Vec Ideal S88x83 .bf16) (A0 A1 : Vec Ideal S128x384 .bf16) (c3 : Vec Ideal S1x384 .f32) (U : Vec Ideal S128x256 .bf16)
    (Uh : Vec Ideal S128x128 .bf16) (p : Fin 4) (k : ℕ) : state X M A0 A1 c3 U Uh p k = hid (F := Ideal) (mixRows (groups X p) M) A0 A1 c3 U Uh k := by
  have e1 : k0_pay21 A0 = A0 := shapeCast_self _ _
  have e2 : k0_pay22 A1 = A1 := shapeCast_self _ _
  have e3 : k0_pay23 c3 = c3 := shapeCast_self _ _
  have e4 : k0_pay24 U = U := shapeCast_self _ _
  have e5 : k0_pay25 Uh = Uh := shapeCast_self _ _
  rw [state, e1, e2, e3, e4, e5]

/-- The region's result, flattened, is the reference's mean. -/
theorem result_same (hE : ∀ i e, ∃ n : Fin 83, E (ix2 i e) = BitVec.ofNat 32 n.val) (hx : ∀ i, ∃ r : ℝ, x i = (r : EReal)) (hW : ∀ w i, ∃ r : ℝ, W w i = (r : EReal))
    (hL : ∀ w (h u : Fin 32), ∃ r : ℝ, L w (ix2 (⟨h.val, by omega⟩ : Fin 64) u) = (r : EReal)) :
    shapeCast S256x10 (result (regroup x) (mixPad E) (evenW (foldW (W 0) (L 0)) (foldW (W 1) (L 1)) (foldW (W 2) (L 2)))
        (oddW (foldW (W 0) (L 0)) (foldW (W 1) (L 1)) (foldW (W 2) (L 2))) (bias3 (foldB (b 0) (L 0) (l 0)) (foldB (b 1) (L 1) (l 1)) (foldB (b 2) (L 2) (l 2)))
        (stateW (bot (L 0)) (bot (L 1))) (candW (bot (L 2))) (diag10 L2) (lastB b2)) shapeCasts_S4x16x40_S256x10
      = Cert.ReferenceIdeal.Tgcn.pool (refState x E W b L l 20) L2 b2 := by
  choose row hr using row_node E hE
  choose col hc using col_node E hE
  funext i
  obtain ⟨B, o, rfl⟩ : ∃ (B : Fin 256) (o : Fin 10), i = ix2 B o := ⟨i 0, i 1, eq_ix2 i⟩
  have hB := B.isLt
  have ho := o.isLt
  have eB : (⟨((B.val / 64) * 16 + B.val / 4 % 16) * 4 + B.val % 4, by omega⟩ : Fin 256) = B := Fin.ext (by show ((B.val / 64) * 16 + B.val / 4 % 16) * 4 + B.val % 4 = B.val; omega)
  have hp := pooled_same (kerState x E W b L l (⟨B.val / 64, by omega⟩ : Fin 4) 20) (refState x E W b L l 20) L2 b2 (⟨B.val / 64, by omega⟩ : Fin 4) (⟨B.val / 4 % 16, by omega⟩ : Fin 16)
    (⟨B.val % 4, by omega⟩ : Fin 4) o (fun n u => state_same x E W b L l row col hr hc hx hW hL _ 20 le_rfl _ _ n u)
  refine Eq.trans ?_ (hp.trans (congrArg (fun a => Cert.ReferenceIdeal.Tgcn.pool (refState x E W b L l 20) L2 b2 (ix2 a o)) eB))
  have hc : ∀ r : Vec Ideal S4x16x40 .f32, shapeCast S256x10 r shapeCasts_S4x16x40_S256x10 (ix2 B o)
      = r (ix3 (⟨B.val / 64, by omega⟩ : Fin 4) (⟨B.val / 4 % 16, by omega⟩ : Fin 16) (⟨(B.val % 4) * 10 + o.val, by omega⟩ : Fin 40)) := by
    intro r
    pointwise
  rw [hc]
  show pooled (F := Ideal) (state _ _ _ _ _ _ _ _ 20) _ _ _ = _
  rw [state_eq]
  rfl

end Cert.KernelIdeal.Tgcn

end
-- ==== Proof.Domain.lean ====
/- What the precondition says of the arguments: the edges name nodes and the values are real. -/
module

public import proofs.«01_k».proof.Proof.Final
public import proofs.«01_k».proof.Defs
public import proofs.«01_k».proof.Proof.Gen.Pre_graph_and_weights

@[expose] public section

set_option maxRecDepth 16384

noncomputable section

namespace Cert.KernelIdeal.Tgcn

open Idealize.ShloMosaic Idealize.ShloMosaic.TcCoe Idealize.SL.Sem Cert.KernelIdeal Cert.KernelIdeal.Gen
open Finset (univ)

/-- A word that is at least 0 and less than 83 as a signed number is a node. -/
theorem word_node (w : BitVec 32) (h : IntOp.andi (IntOp.cmpi .sge w 0#32) (IntOp.cmpi .slt w 83#32) = 1#1) : ∃ n : Fin 83, w = BitVec.ofNat 32 n.val := by
  have h1 : 0 ≤ w.toInt ∧ w.toInt < 83 := by
    rw [WordCmp.cmpi_sge_eq, WordCmp.cmpi_slt_eq, WordCmp.andi_ofBool, WordCmp.ofBool_eq_one_iff, Bool.and_eq_true, decide_eq_true_iff, decide_eq_true_iff] at h
    exact h
  have h2 : w.toNat < 83 := by
    have := BitVec.toInt_eq_toNat_cond w
    split_ifs at this <;> omega
  exact ⟨⟨w.toNat, h2⟩, by simp⟩

/-- A value whose difference with itself is zero is real. -/
theorem real_of_sub (y : EReal) (h : Ideal.cmp .oeq (y - y) 0 = 1#1) : ∃ r : ℝ, y = (r : EReal) := by
  induction y with
  | bot => simp [Ideal.cmp] at h
  | top => simp [Ideal.cmp] at h
  | coe r => exact ⟨r, rfl⟩

/-- Edges the precondition admits name nodes. -/
theorem edges_node (E : IVec S2x3403 32) (z t : IVec S2x3403 32) (hz : ∀ i, z i = 0#32) (ht : ∀ i, t i = 83#32)
    (h : andi (cmpi .sge E z) (cmpi .slt E t) = fun _ => 1#1) (i : Fin 2) (e : Fin 3403) : ∃ n : Fin 83, E (ix2 i e) = BitVec.ofNat 32 n.val := by
  refine word_node _ ?_
  rw [← congrFun h (ix2 i e), ← hz (ix2 i e), ← ht (ix2 i e)]
  rfl

/-- Arrays the precondition admits are real. -/
theorem array_real {s : Shape} (v z : FVec Ideal s .f32) (hz : ∀ i, z i = (0 : EReal)) (h : cmpf .oeq (subf v v) z = fun _ => 1#1) (i : s.Idx) : ∃ r : ℝ, v i = (r : EReal) := by
  refine real_of_sub _ ?_
  rw [← congrFun h i, ← hz i]
  rfl

/-- The reference's loop state along the recurrence. -/
def refLoop (x : FVec Ideal S256x20x83x16 .f32) (E : IVec S2x3403 32) (Wz Wr Wh : FVec Ideal S16x32 .f32) (bz br bh : FVec Ideal S32 .f32)
    (Lz Lr Lh : FVec Ideal S64x32 .f32) (lz lr lh : FVec Ideal S32 .f32) (k : ℕ) : Cert.ReferenceIdeal.Step.State Ideal :=
  Cert.ReferenceIdeal.Tgcn.st x Wz Wr Wh bz br bh Lz Lr Lh lz lr lh (Cert.ReferenceIdeal.Step.A_main_v3 (F := Ideal) E) (Cert.ReferenceIdeal.Step.A_main_v6 (F := Ideal) E)
    (Cert.ReferenceIdeal.Step.A_main_v36 (F := Ideal) E)
    (Cert.ReferenceIdeal.Tgcn.hs x Wz Wr Wh bz br bh Lz Lr Lh lz lr lh (Cert.ReferenceIdeal.Step.A_main_v3 (F := Ideal) E) (Cert.ReferenceIdeal.Step.A_main_v6 (F := Ideal) E)
      (Cert.ReferenceIdeal.Step.A_main_v36 (F := Ideal) E) k)

/-- The two programs take the edges' sources alike. -/
theorem rowIx_eq (E : IVec S2x3403 32) : Cert.ReferenceIdeal.Step.A_main_v3 (F := Ideal) E = rowIx E := rfl

/-- The two programs take the edges' targets alike. -/
theorem colIx_eq (E : IVec S2x3403 32) : Cert.ReferenceIdeal.Step.A_main_v6 (F := Ideal) E = colIx E := rfl

/-- The two programs weigh the edges alike. -/
theorem norms_eq (E : IVec S2x3403 32) : Cert.ReferenceIdeal.Step.A_main_v36 (F := Ideal) E = norms E := rfl

/-- The reference's result from the loop's last state. -/
theorem refLoop_result (x : FVec Ideal S256x20x83x16 .f32) (E : IVec S2x3403 32) (W : Fin 3 → FVec Ideal S16x32 .f32) (b : Fin 3 → FVec Ideal S32 .f32)
    (L : Fin 3 → FVec Ideal S64x32 .f32) (l : Fin 3 → FVec Ideal S32 .f32) (a1 : FVec Ideal S256x2 .f32) (a2 : FVec Ideal S256x1 .f32) (a4 : FVec Ideal S256x24 .f32)
    (L2 : FVec Ideal S32x10 .f32) (b2 : FVec Ideal S10 .f32) :
    Cert.ReferenceIdeal.Step.R_main_v53 (refLoop x E (W 0) (W 1) (W 2) (b 0) (b 1) (b 2) (L 0) (L 1) (L 2) (l 0) (l 1) (l 2) 20) a1 a2 a4 L2 b2
      = concatenate S256x37 1 [⟨S256x10, Cert.ReferenceIdeal.Tgcn.pool (refState x E W b L l 20) L2 b2⟩, ⟨S256x2, a1⟩, ⟨S256x1, a2⟩, ⟨S256x24, a4⟩]
        concatenates_S256x10_S256x2_S256x1_S256x24_S256x37_d1 := by
  rw [refLoop, rowIx_eq, colIx_eq, norms_eq]
  rfl

variable (m : (ℓ : Loc nD τ sig) → Buf (Elt Ideal) ℓ)

/-- The three convolutions' weights. -/
def argW (c : Dev nD) : Fin 3 → FVec Ideal S16x32 .f32 :=
  ![m ((c : Thread nD τ).loc main_arg6), m ((c : Thread nD τ).loc main_arg8), m ((c : Thread nD τ).loc main_arg10)]

/-- The three convolutions' biases. -/
def argb (c : Dev nD) : Fin 3 → FVec Ideal S32 .f32 :=
  ![m ((c : Thread nD τ).loc main_arg7), m ((c : Thread nD τ).loc main_arg9), m ((c : Thread nD τ).loc main_arg11)]

/-- The three gates' weights. -/
def argL (c : Dev nD) : Fin 3 → FVec Ideal S64x32 .f32 :=
  ![m ((c : Thread nD τ).loc main_arg12), m ((c : Thread nD τ).loc main_arg14), m ((c : Thread nD τ).loc main_arg16)]

/-- The three gates' biases. -/
def argl (c : Dev nD) : Fin 3 → FVec Ideal S32 .f32 :=
  ![m ((c : Thread nD τ).loc main_arg13), m ((c : Thread nD τ).loc main_arg15), m ((c : Thread nD τ).loc main_arg17)]

/-- Under the precondition the region's result, flattened, is the reference's mean over the nodes. -/
theorem region_same (hP : Cert.Pre_KernelIdeal_graph_and_weights m) (c : Dev nD) :
    shapeCast S256x10 ((dats m 0 c).arrAt 9 cfg0.N) shapeCasts_S4x16x40_S256x10
      = Cert.ReferenceIdeal.Tgcn.pool (refState (m ((c : Thread nD τ).loc main_arg0)) (m ((c : Thread nD τ).loc main_arg5)) (argW m c) (argb m c) (argL m c) (argl m c) 20)
        (m ((c : Thread nD τ).loc main_arg18)) (m ((c : Thread nD τ).loc main_arg19)) := by
  obtain ⟨pE, px, pz, pr, ph, plz, plr, plh⟩ := hP c
  have hE := edges_node (m ((c : Thread nD τ).loc main_arg5)) _ _ (fun _ => rfl) (fun _ => rfl) pE
  have zz : (Ideal.ofBits .f32 0x00000000#32 : EReal) = 0 := by simp [Ideal.ofBits, Ideal.ieee]
  have hx := array_real (m ((c : Thread nD τ).loc main_arg0)) _ (fun _ => zz) px
  have hW : ∀ w i, ∃ r : ℝ, argW m c w i = (r : EReal) := by
    intro w
    fin_cases w
    · exact array_real (m ((c : Thread nD τ).loc main_arg6)) _ (fun _ => zz) pz
    · exact array_real (m ((c : Thread nD τ).loc main_arg8)) _ (fun _ => zz) pr
    · exact array_real (m ((c : Thread nD τ).loc main_arg10)) _ (fun _ => zz) ph
  have ht : ∀ (L : FVec Ideal S64x32 .f32) (h u : Fin 32), L (ix2 (⟨h.val, by omega⟩ : Fin 64) u) = top L (ix2 h u) := by
    intro L h u
    pointwise [top]
  have hL : ∀ w (h u : Fin 32), ∃ r : ℝ, argL m c w (ix2 (⟨h.val, by omega⟩ : Fin 64) u) = (r : EReal) := by
    intro w h u
    rw [ht (argL m c w) h u]
    fin_cases w
    · exact array_real (top (m ((c : Thread nD τ).loc main_arg12))) _ (fun _ => zz) plz (ix2 h u)
    · exact array_real (top (m ((c : Thread nD τ).loc main_arg14))) _ (fun _ => zz) plr (ix2 h u)
    · exact array_real (top (m ((c : Thread nD τ).loc main_arg16))) _ (fun _ => zz) plh (ix2 h u)
  have key := result_same (m ((c : Thread nD τ).loc main_arg0)) (m ((c : Thread nD τ).loc main_arg5)) (argW m c) (argb m c) (argL m c) (argl m c)
    (m ((c : Thread nD τ).loc main_arg18)) (m ((c : Thread nD τ).loc main_arg19)) hE hx hW hL
  rw [final, at_v220, at_v55, at_v116, at_v118, at_v138, at_v176, at_v195, at_v212, at_v216]
  exact key

end Cert.KernelIdeal.Tgcn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Pre_graph_and_weights
public import proofs.«01_k».proof.Proof.Domain
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were and ends with every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's idealization changes one literal, to the constant it stands for. -/
theorem preserves : Cert.preserves_Kernel_KernelIdeal :=
  IdealRules.named_const.statement Cert.KernelIdeal.κ "mean" .f32 0x3C4565C8#32 ((1 / 83 : ℝ) : EReal) rfl

/-- From the memories that agree on the arguments, where the precondition holds, the kernel and the reference end with the same result. -/
theorem algebraic : Cert.algebraic_KernelIdeal_ReferenceIdeal_pre_graph_and_weights := by
  intro m g m' g' hP hA
  refine ⟨_, Cert.KernelIdeal.Value.run (F := Ideal) m g, ?_⟩
  refine (θ_run Cert.ReferenceIdeal.defs _ _).mono (fun r h c => ⟨(h c).1.trans ?_, (h c).2⟩)
    (Cert.ReferenceIdeal.StepRun.run_iter (F := Ideal) m' g' (fun c k => Cert.KernelIdeal.Tgcn.refLoop
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg17)) k) (fun c => rfl) (fun c n => rfl))
  obtain ⟨e0, e1, e2, e3, e4, e5, e6, e7, e8, e9, e10, e11, e12, e13, e14, e15, e16, e17, e18, e19⟩ := hA c
  rw [e0, e1, e2, e4, e5, e6, e7, e8, e9, e10, e11, e12, e13, e14, e15, e16, e17, e18, e19]
  refine (Cert.KernelIdeal.Tgcn.refLoop_result _ _ (Cert.KernelIdeal.Tgcn.argW m c) (Cert.KernelIdeal.Tgcn.argb m c) (Cert.KernelIdeal.Tgcn.argL m c) (Cert.KernelIdeal.Tgcn.argl m c) _ _ _ _ _).trans ?_
  exact congrArg (fun t => concatenate Cert.KernelIdeal.S256x37 1 [⟨Cert.KernelIdeal.S256x10, t⟩, ⟨Cert.KernelIdeal.S256x2, _⟩, ⟨Cert.KernelIdeal.S256x1, _⟩, ⟨Cert.KernelIdeal.S256x24, _⟩] _)
    (Cert.KernelIdeal.Tgcn.region_same m hP c).symm

/-- Everything the certificate claims. -/
theorem claim : Cert.Claim := ⟨Cert.Kernel.Gen.facts, Cert.KernelIdeal.Gen.facts, Cert.ReferenceIdeal.Gen.facts, Cert.Pre_graph_and_weights.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, preserves, algebraic⟩

end Cert.Proof

end
